-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_QkvKernel (m : (ℓ : Loc Cert.QkvKernel.nD Cert.QkvKernel.τ Cert.QkvKernel.sig) → Buf (Elt Bits) ℓ) : Prop :=
  True

def Pre_QkvKernelIdeal (m : (ℓ : Loc Cert.QkvKernelIdeal.nD Cert.QkvKernelIdeal.τ Cert.QkvKernelIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_WinKernel (m : (ℓ : Loc Cert.WinKernel.nD Cert.WinKernel.τ Cert.WinKernel.sig) → Buf (Elt Bits) ℓ) : Prop :=
  True

def Pre_WinKernelIdeal (m : (ℓ : Loc Cert.WinKernelIdeal.nD Cert.WinKernelIdeal.τ Cert.WinKernelIdeal.sig) → Buf (Elt Ideal) ℓ) : Prop :=
  True

def Pre_WinReferenceIdeal (m : (ℓ : Loc Cert.WinReferenceIdeal.nD Cert.WinReferenceIdeal.τ Cert.WinReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_QkvKernel [hQkvKernel : Cert.QkvKernel.Facts] : Prop :=
  ∀ (m : (ℓ : Loc Cert.QkvKernel.nD Cert.QkvKernel.τ Cert.QkvKernel.sig) → Buf (Elt Bits) ℓ) (g : Dev Cert.QkvKernel.nD → PrngReg), Pre_QkvKernel m →
    θ_run (Cert.QkvKernel.defs (F := Bits)) (onTc (τ := Cert.QkvKernel.τ) (Cert.QkvKernel.main (F := Bits))) ⟨m, fun _ => 0, g⟩ (fun r => (∀ c : Dev Cert.QkvKernel.nD,
      r.2.mem ((c.tc : Thread Cert.QkvKernel.nD Cert.QkvKernel.τ).loc Cert.QkvKernel.main_arg0) = m ((c.tc : Thread Cert.QkvKernel.nD Cert.QkvKernel.τ).loc Cert.QkvKernel.main_arg0)
      ∧ r.2.mem ((c.tc : Thread Cert.QkvKernel.nD Cert.QkvKernel.τ).loc Cert.QkvKernel.main_arg1) = m ((c.tc : Thread Cert.QkvKernel.nD Cert.QkvKernel.τ).loc Cert.QkvKernel.main_arg1)
      ∧ r.2.mem ((c.tc : Thread Cert.QkvKernel.nD Cert.QkvKernel.τ).loc Cert.QkvKernel.main_arg2) = m ((c.tc : Thread Cert.QkvKernel.nD Cert.QkvKernel.τ).loc Cert.QkvKernel.main_arg2)
      ∧ r.2.mem ((c.tc : Thread Cert.QkvKernel.nD Cert.QkvKernel.τ).loc Cert.QkvKernel.main_arg3) = m ((c.tc : Thread Cert.QkvKernel.nD Cert.QkvKernel.τ).loc Cert.QkvKernel.main_arg3)
      ∧ r.2.mem ((c.tc : Thread Cert.QkvKernel.nD Cert.QkvKernel.τ).loc Cert.QkvKernel.main_arg4) = m ((c.tc : Thread Cert.QkvKernel.nD Cert.QkvKernel.τ).loc Cert.QkvKernel.main_arg4)
      ∧ r.2.mem ((c.tc : Thread Cert.QkvKernel.nD Cert.QkvKernel.τ).loc Cert.QkvKernel.main_arg5) = m ((c.tc : Thread Cert.QkvKernel.nD Cert.QkvKernel.τ).loc Cert.QkvKernel.main_arg5)
      ∧ r.2.mem ((c.tc : Thread Cert.QkvKernel.nD Cert.QkvKernel.τ).loc Cert.QkvKernel.main_arg6) = m ((c.tc : Thread Cert.QkvKernel.nD Cert.QkvKernel.τ).loc Cert.QkvKernel.main_arg6)
      ∧ r.2.mem ((c.tc : Thread Cert.QkvKernel.nD Cert.QkvKernel.τ).loc Cert.QkvKernel.main_arg7) = m ((c.tc : Thread Cert.QkvKernel.nD Cert.QkvKernel.τ).loc Cert.QkvKernel.main_arg7))
      ∧ r.2.sem = fun _ => 0)

def quiescent_QkvKernelIdeal [hQkvKernelIdeal : Cert.QkvKernelIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg), Pre_QkvKernelIdeal m →
    θ_run (Cert.QkvKernelIdeal.defs (F := Ideal)) (onTc (τ := Cert.QkvKernelIdeal.τ) (Cert.QkvKernelIdeal.main (F := Ideal))) ⟨m, fun _ => 0, g⟩ (fun r => (∀ c : Dev Cert.QkvKernelIdeal.nD,
      r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
      ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
      ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2)
      ∧ r.2.mem ((c.tc : Thread Cert.QkvKernelIdeal.nD Cert.QkvKernelIdeal.τ).loc Cert.QkvKernelIdeal.main_arg3) = m ((c.tc : Thread Cert.QkvKernelIdeal.nD Cert.QkvKernelIdeal.τ).loc Cert.QkvKernelIdeal.main_arg3)
      ∧ r.2.mem ((c.tc : Thread Cert.QkvKernelIdeal.nD Cert.QkvKernelIdeal.τ).loc Cert.QkvKernelIdeal.main_arg4) = m ((c.tc : Thread Cert.QkvKernelIdeal.nD Cert.QkvKernelIdeal.τ).loc Cert.QkvKernelIdeal.main_arg4)
      ∧ r.2.mem ((c.tc : Thread Cert.QkvKernelIdeal.nD Cert.QkvKernelIdeal.τ).loc Cert.QkvKernelIdeal.main_arg5) = m ((c.tc : Thread Cert.QkvKernelIdeal.nD Cert.QkvKernelIdeal.τ).loc Cert.QkvKernelIdeal.main_arg5)
      ∧ r.2.mem ((c.tc : Thread Cert.QkvKernelIdeal.nD Cert.QkvKernelIdeal.τ).loc Cert.QkvKernelIdeal.main_arg6) = m ((c.tc : Thread Cert.QkvKernelIdeal.nD Cert.QkvKernelIdeal.τ).loc Cert.QkvKernelIdeal.main_arg6)
      ∧ r.2.mem ((c.tc : Thread Cert.QkvKernelIdeal.nD Cert.QkvKernelIdeal.τ).loc Cert.QkvKernelIdeal.main_arg7) = m ((c.tc : Thread Cert.QkvKernelIdeal.nD Cert.QkvKernelIdeal.τ).loc Cert.QkvKernelIdeal.main_arg7))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4)
      ∧ r.2.mem ((c.tc : Thread Cert.QkvReferenceIdeal.nD Cert.QkvReferenceIdeal.τ).loc Cert.QkvReferenceIdeal.main_arg5) = m ((c.tc : Thread Cert.QkvReferenceIdeal.nD Cert.QkvReferenceIdeal.τ).loc Cert.QkvReferenceIdeal.main_arg5)
      ∧ r.2.mem ((c.tc : Thread Cert.QkvReferenceIdeal.nD Cert.QkvReferenceIdeal.τ).loc Cert.QkvReferenceIdeal.main_arg6) = m ((c.tc : Thread Cert.QkvReferenceIdeal.nD Cert.QkvReferenceIdeal.τ).loc Cert.QkvReferenceIdeal.main_arg6)
      ∧ r.2.mem ((c.tc : Thread Cert.QkvReferenceIdeal.nD Cert.QkvReferenceIdeal.τ).loc Cert.QkvReferenceIdeal.main_arg7) = m ((c.tc : Thread Cert.QkvReferenceIdeal.nD Cert.QkvReferenceIdeal.τ).loc Cert.QkvReferenceIdeal.main_arg7))
      ∧ r.2.sem = fun _ => 0)

def quiescent_WinKernel [hWinKernel : Cert.WinKernel.Facts] : Prop :=
  ∀ (m : (ℓ : Loc Cert.WinKernel.nD Cert.WinKernel.τ Cert.WinKernel.sig) → Buf (Elt Bits) ℓ) (g : Dev Cert.WinKernel.nD → PrngReg), Pre_WinKernel m →
    θ_run (Cert.WinKernel.defs (F := Bits)) (onTc (τ := Cert.WinKernel.τ) (Cert.WinKernel.main (F := Bits))) ⟨m, fun _ => 0, g⟩ (fun r => (∀ c : Dev Cert.WinKernel.nD,
      r.2.mem ((c.tc : Thread Cert.WinKernel.nD Cert.WinKernel.τ).loc Cert.WinKernel.main_arg0) = m ((c.tc : Thread Cert.WinKernel.nD Cert.WinKernel.τ).loc Cert.WinKernel.main_arg0)
      ∧ r.2.mem ((c.tc : Thread Cert.WinKernel.nD Cert.WinKernel.τ).loc Cert.WinKernel.main_arg1) = m ((c.tc : Thread Cert.WinKernel.nD Cert.WinKernel.τ).loc Cert.WinKernel.main_arg1)
      ∧ r.2.mem ((c.tc : Thread Cert.WinKernel.nD Cert.WinKernel.τ).loc Cert.WinKernel.main_arg2) = m ((c.tc : Thread Cert.WinKernel.nD Cert.WinKernel.τ).loc Cert.WinKernel.main_arg2))
      ∧ r.2.sem = fun _ => 0)

def quiescent_WinKernelIdeal [hWinKernelIdeal : Cert.WinKernelIdeal.Facts] : Prop :=
  ∀ (m : (ℓ : Loc Cert.WinKernelIdeal.nD Cert.WinKernelIdeal.τ Cert.WinKernelIdeal.sig) → Buf (Elt Ideal) ℓ) (g : Dev Cert.WinKernelIdeal.nD → PrngReg), Pre_WinKernelIdeal m →
    θ_run (Cert.WinKernelIdeal.defs (F := Ideal)) (onTc (τ := Cert.WinKernelIdeal.τ) (Cert.WinKernelIdeal.main (F := Ideal))) ⟨m, fun _ => 0, g⟩ (fun r => (∀ c : Dev Cert.WinKernelIdeal.nD,
      r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
      ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1)
      ∧ r.2.mem ((c.tc : Thread Cert.WinKernelIdeal.nD Cert.WinKernelIdeal.τ).loc Cert.WinKernelIdeal.main_arg2) = m ((c.tc : Thread Cert.WinKernelIdeal.nD Cert.WinKernelIdeal.τ).loc Cert.WinKernelIdeal.main_arg2))
      ∧ r.2.sem = fun _ => 0)

def quiescent_WinReferenceIdeal [hWinReferenceIdeal : Cert.WinReferenceIdeal.Facts] : Prop :=
  ∀ (m : (ℓ : Loc Cert.WinReferenceIdeal.nD Cert.WinReferenceIdeal.τ Cert.WinReferenceIdeal.sig) → Buf (Elt Ideal) ℓ) (g : Dev Cert.WinReferenceIdeal.nD → PrngReg), Pre_WinReferenceIdeal m →
    θ_run (Cert.WinReferenceIdeal.defs (F := Ideal)) (onTc (τ := Cert.WinReferenceIdeal.τ) (Cert.WinReferenceIdeal.main (F := Ideal))) ⟨m, fun _ => 0, g⟩ (fun r => (∀ c : Dev Cert.WinReferenceIdeal.nD,
      r.2.mem ((c.tc : Thread Cert.WinReferenceIdeal.nD Cert.WinReferenceIdeal.τ).loc Cert.WinReferenceIdeal.main_arg0) = m ((c.tc : Thread Cert.WinReferenceIdeal.nD Cert.WinReferenceIdeal.τ).loc Cert.WinReferenceIdeal.main_arg0)
      ∧ r.2.mem ((c.tc : Thread Cert.WinReferenceIdeal.nD Cert.WinReferenceIdeal.τ).loc Cert.WinReferenceIdeal.main_arg1) = m ((c.tc : Thread Cert.WinReferenceIdeal.nD Cert.WinReferenceIdeal.τ).loc Cert.WinReferenceIdeal.main_arg1)
      ∧ r.2.mem ((c.tc : Thread Cert.WinReferenceIdeal.nD Cert.WinReferenceIdeal.τ).loc Cert.WinReferenceIdeal.main_arg2) = m ((c.tc : Thread Cert.WinReferenceIdeal.nD Cert.WinReferenceIdeal.τ).loc Cert.WinReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)) (v4 : (c : Dev Cert.KernelIdeal.nD) → Buf (Elt Ideal) ((c.tc : Thread Cert.KernelIdeal.nD Cert.KernelIdeal.τ).loc Cert.KernelIdeal.main_v9_4)) (v5 : (c : Dev Cert.KernelIdeal.nD) → Buf (Elt Ideal) ((c.tc : Thread Cert.KernelIdeal.nD Cert.KernelIdeal.τ).loc Cert.KernelIdeal.main_v9_5)) (v6 : (c : Dev Cert.KernelIdeal.nD) → Buf (Elt Ideal) ((c.tc : Thread Cert.KernelIdeal.nD Cert.KernelIdeal.τ).loc Cert.KernelIdeal.main_v9_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_v9_4) = v4 c
          ∧ r.2.mem ((c.tc : Thread Cert.KernelIdeal.nD Cert.KernelIdeal.τ).loc Cert.KernelIdeal.main_v9_5) = v5 c
          ∧ r.2.mem ((c.tc : Thread Cert.KernelIdeal.nD Cert.KernelIdeal.τ).loc Cert.KernelIdeal.main_v9_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_QkvKernel_QkvKernelIdeal : Prop :=
  True

def algebraic_QkvKernelIdeal_QkvReferenceIdeal [hQkvKernelIdeal : Cert.QkvKernelIdeal.Facts] [hQkvReferenceIdeal : Cert.QkvReferenceIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvKernelIdeal m →
    (∀ c : Dev Cert.QkvKernelIdeal.nD,
      m' ((c.tc : Thread Cert.QkvReferenceIdeal.nD Cert.QkvReferenceIdeal.τ).loc Cert.QkvReferenceIdeal.main_arg0) = m ((c.tc : Thread Cert.QkvKernelIdeal.nD Cert.QkvKernelIdeal.τ).loc Cert.QkvKernelIdeal.main_arg0)
      ∧ m' ((c.tc : Thread Cert.QkvReferenceIdeal.nD Cert.QkvReferenceIdeal.τ).loc Cert.QkvReferenceIdeal.main_arg1) = m ((c.tc : Thread Cert.QkvKernelIdeal.nD Cert.QkvKernelIdeal.τ).loc Cert.QkvKernelIdeal.main_arg1)
      ∧ m' ((c.tc : Thread Cert.QkvReferenceIdeal.nD Cert.QkvReferenceIdeal.τ).loc Cert.QkvReferenceIdeal.main_arg2) = m ((c.tc : Thread Cert.QkvKernelIdeal.nD Cert.QkvKernelIdeal.τ).loc Cert.QkvKernelIdeal.main_arg2)
      ∧ m' ((c.tc : Thread Cert.QkvReferenceIdeal.nD Cert.QkvReferenceIdeal.τ).loc Cert.QkvReferenceIdeal.main_arg3) = m ((c.tc : Thread Cert.QkvKernelIdeal.nD Cert.QkvKernelIdeal.τ).loc Cert.QkvKernelIdeal.main_arg3)
      ∧ m' ((c.tc : Thread Cert.QkvReferenceIdeal.nD Cert.QkvReferenceIdeal.τ).loc Cert.QkvReferenceIdeal.main_arg4) = m ((c.tc : Thread Cert.QkvKernelIdeal.nD Cert.QkvKernelIdeal.τ).loc Cert.QkvKernelIdeal.main_arg4)
      ∧ m' ((c.tc : Thread Cert.QkvReferenceIdeal.nD Cert.QkvReferenceIdeal.τ).loc Cert.QkvReferenceIdeal.main_arg5) = m ((c.tc : Thread Cert.QkvKernelIdeal.nD Cert.QkvKernelIdeal.τ).loc Cert.QkvKernelIdeal.main_arg5)
      ∧ m' ((c.tc : Thread Cert.QkvReferenceIdeal.nD Cert.QkvReferenceIdeal.τ).loc Cert.QkvReferenceIdeal.main_arg6) = m ((c.tc : Thread Cert.QkvKernelIdeal.nD Cert.QkvKernelIdeal.τ).loc Cert.QkvKernelIdeal.main_arg6)
      ∧ m' ((c.tc : Thread Cert.QkvReferenceIdeal.nD Cert.QkvReferenceIdeal.τ).loc Cert.QkvReferenceIdeal.main_arg7) = m ((c.tc : Thread Cert.QkvKernelIdeal.nD Cert.QkvKernelIdeal.τ).loc Cert.QkvKernelIdeal.main_arg7)) →
    ∃ (v0 : (c : Dev Cert.QkvKernelIdeal.nD) → Buf (Elt Ideal) ((c.tc : Thread Cert.QkvKernelIdeal.nD Cert.QkvKernelIdeal.τ).loc Cert.QkvKernelIdeal.main_v4_0)) (v1 : (c : Dev Cert.QkvKernelIdeal.nD) → Buf (Elt Ideal) ((c.tc : Thread Cert.QkvKernelIdeal.nD Cert.QkvKernelIdeal.τ).loc Cert.QkvKernelIdeal.main_v4_1)) (v2 : (c : Dev Cert.QkvKernelIdeal.nD) → Buf (Elt Ideal) ((c.tc : Thread Cert.QkvKernelIdeal.nD Cert.QkvKernelIdeal.τ).loc Cert.QkvKernelIdeal.main_v4_2)) (v3 : (c : Dev Cert.QkvKernelIdeal.nD) → Buf (Elt Ideal) ((c.tc : Thread Cert.QkvKernelIdeal.nD Cert.QkvKernelIdeal.τ).loc Cert.QkvKernelIdeal.main_v4_3)) (v4 : (c : Dev Cert.QkvKernelIdeal.nD) → Buf (Elt Ideal) ((c.tc : Thread Cert.QkvKernelIdeal.nD Cert.QkvKernelIdeal.τ).loc Cert.QkvKernelIdeal.main_v4_4)),
      θ_run (Cert.QkvKernelIdeal.defs (F := Ideal)) (onTc (τ := Cert.QkvKernelIdeal.τ) (Cert.QkvKernelIdeal.main (F := Ideal))) ⟨m, fun _ => 0, g⟩ (fun r => ∀ c : Dev Cert.QkvKernelIdeal.nD,
          r.2.mem ((c.tc : Thread Cert.QkvKernelIdeal.nD Cert.QkvKernelIdeal.τ).loc Cert.QkvKernelIdeal.main_v4_0) = v0 c
          ∧ r.2.mem ((c.tc : Thread Cert.QkvKernelIdeal.nD Cert.QkvKernelIdeal.τ).loc Cert.QkvKernelIdeal.main_v4_1) = v1 c
          ∧ r.2.mem ((c.tc : Thread Cert.QkvKernelIdeal.nD Cert.QkvKernelIdeal.τ).loc Cert.QkvKernelIdeal.main_v4_2) = v2 c
          ∧ r.2.mem ((c.tc : Thread Cert.QkvKernelIdeal.nD Cert.QkvKernelIdeal.τ).loc Cert.QkvKernelIdeal.main_v4_3) = v3 c
          ∧ r.2.mem ((c.tc : Thread Cert.QkvKernelIdeal.nD Cert.QkvKernelIdeal.τ).loc Cert.QkvKernelIdeal.main_v4_4) = v4 c
          ∧ r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
          ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
          ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2)
          ∧ r.2.mem ((c.tc : Thread Cert.QkvKernelIdeal.nD Cert.QkvKernelIdeal.τ).loc Cert.QkvKernelIdeal.main_arg3) = m ((c.tc : Thread Cert.QkvKernelIdeal.nD Cert.QkvKernelIdeal.τ).loc Cert.QkvKernelIdeal.main_arg3)
          ∧ r.2.mem ((c.tc : Thread Cert.QkvKernelIdeal.nD Cert.QkvKernelIdeal.τ).loc Cert.QkvKernelIdeal.main_arg4) = m ((c.tc : Thread Cert.QkvKernelIdeal.nD Cert.QkvKernelIdeal.τ).loc Cert.QkvKernelIdeal.main_arg4)
          ∧ r.2.mem ((c.tc : Thread Cert.QkvKernelIdeal.nD Cert.QkvKernelIdeal.τ).loc Cert.QkvKernelIdeal.main_arg5) = m ((c.tc : Thread Cert.QkvKernelIdeal.nD Cert.QkvKernelIdeal.τ).loc Cert.QkvKernelIdeal.main_arg5)
          ∧ r.2.mem ((c.tc : Thread Cert.QkvKernelIdeal.nD Cert.QkvKernelIdeal.τ).loc Cert.QkvKernelIdeal.main_arg6) = m ((c.tc : Thread Cert.QkvKernelIdeal.nD Cert.QkvKernelIdeal.τ).loc Cert.QkvKernelIdeal.main_arg6)
          ∧ r.2.mem ((c.tc : Thread Cert.QkvKernelIdeal.nD Cert.QkvKernelIdeal.τ).loc Cert.QkvKernelIdeal.main_arg7) = m ((c.tc : Thread Cert.QkvKernelIdeal.nD Cert.QkvKernelIdeal.τ).loc Cert.QkvKernelIdeal.main_arg7))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v0_0) = v0 c
          ∧ r.2.mem ((c.tc : Thread Cert.QkvReferenceIdeal.nD Cert.QkvReferenceIdeal.τ).loc Cert.QkvReferenceIdeal.main_v0_1) = v1 c
          ∧ r.2.mem ((c.tc : Thread Cert.QkvReferenceIdeal.nD Cert.QkvReferenceIdeal.τ).loc Cert.QkvReferenceIdeal.main_v0_2) = v2 c
          ∧ r.2.mem ((c.tc : Thread Cert.QkvReferenceIdeal.nD Cert.QkvReferenceIdeal.τ).loc Cert.QkvReferenceIdeal.main_v0_3) = v3 c
          ∧ r.2.mem ((c.tc : Thread Cert.QkvReferenceIdeal.nD Cert.QkvReferenceIdeal.τ).loc Cert.QkvReferenceIdeal.main_v0_4) = v4 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4)
          ∧ r.2.mem ((c.tc : Thread Cert.QkvReferenceIdeal.nD Cert.QkvReferenceIdeal.τ).loc Cert.QkvReferenceIdeal.main_arg5) = m' ((c.tc : Thread Cert.QkvReferenceIdeal.nD Cert.QkvReferenceIdeal.τ).loc Cert.QkvReferenceIdeal.main_arg5)
          ∧ r.2.mem ((c.tc : Thread Cert.QkvReferenceIdeal.nD Cert.QkvReferenceIdeal.τ).loc Cert.QkvReferenceIdeal.main_arg6) = m' ((c.tc : Thread Cert.QkvReferenceIdeal.nD Cert.QkvReferenceIdeal.τ).loc Cert.QkvReferenceIdeal.main_arg6)
          ∧ r.2.mem ((c.tc : Thread Cert.QkvReferenceIdeal.nD Cert.QkvReferenceIdeal.τ).loc Cert.QkvReferenceIdeal.main_arg7) = m' ((c.tc : Thread Cert.QkvReferenceIdeal.nD Cert.QkvReferenceIdeal.τ).loc Cert.QkvReferenceIdeal.main_arg7))

def preserves_WinKernel_WinKernelIdeal : Prop :=
  True

def algebraic_WinKernelIdeal_WinReferenceIdeal [hWinKernelIdeal : Cert.WinKernelIdeal.Facts] [hWinReferenceIdeal : Cert.WinReferenceIdeal.Facts] : Prop :=
  ∀ (m : (ℓ : Loc Cert.WinKernelIdeal.nD Cert.WinKernelIdeal.τ Cert.WinKernelIdeal.sig) → Buf (Elt Ideal) ℓ) (g : Dev Cert.WinKernelIdeal.nD → PrngReg)
    (m' : (ℓ : Loc Cert.WinReferenceIdeal.nD Cert.WinReferenceIdeal.τ Cert.WinReferenceIdeal.sig) → Buf (Elt Ideal) ℓ) (g' : Dev Cert.WinReferenceIdeal.nD → PrngReg), Pre_WinKernelIdeal m →
    (∀ c : Dev Cert.WinKernelIdeal.nD,
      m' ((c.tc : Thread Cert.WinReferenceIdeal.nD Cert.WinReferenceIdeal.τ).loc Cert.WinReferenceIdeal.main_arg0) = m ((c.tc : Thread Cert.WinKernelIdeal.nD Cert.WinKernelIdeal.τ).loc Cert.WinKernelIdeal.main_arg0)
      ∧ m' ((c.tc : Thread Cert.WinReferenceIdeal.nD Cert.WinReferenceIdeal.τ).loc Cert.WinReferenceIdeal.main_arg1) = m ((c.tc : Thread Cert.WinKernelIdeal.nD Cert.WinKernelIdeal.τ).loc Cert.WinKernelIdeal.main_arg1)
      ∧ m' ((c.tc : Thread Cert.WinReferenceIdeal.nD Cert.WinReferenceIdeal.τ).loc Cert.WinReferenceIdeal.main_arg2) = m ((c.tc : Thread Cert.WinKernelIdeal.nD Cert.WinKernelIdeal.τ).loc Cert.WinKernelIdeal.main_arg2)) →
    ∃ (v0 : (c : Dev Cert.WinKernelIdeal.nD) → Buf (Elt Ideal) ((c.tc : Thread Cert.WinKernelIdeal.nD Cert.WinKernelIdeal.τ).loc Cert.WinKernelIdeal.main_v0)),
      θ_run (Cert.WinKernelIdeal.defs (F := Ideal)) (onTc (τ := Cert.WinKernelIdeal.τ) (Cert.WinKernelIdeal.main (F := Ideal))) ⟨m, fun _ => 0, g⟩ (fun r => ∀ c : Dev Cert.WinKernelIdeal.nD,
          r.2.mem ((c.tc : Thread Cert.WinKernelIdeal.nD Cert.WinKernelIdeal.τ).loc Cert.WinKernelIdeal.main_v0) = v0 c
          ∧ r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
          ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1)
          ∧ r.2.mem ((c.tc : Thread Cert.WinKernelIdeal.nD Cert.WinKernelIdeal.τ).loc Cert.WinKernelIdeal.main_arg2) = m ((c.tc : Thread Cert.WinKernelIdeal.nD Cert.WinKernelIdeal.τ).loc Cert.WinKernelIdeal.main_arg2))
      ∧ θ_run (Cert.WinReferenceIdeal.defs (F := Ideal)) (onTc (τ := Cert.WinReferenceIdeal.τ) (Cert.WinReferenceIdeal.main (F := Ideal))) ⟨m', fun _ => 0, g'⟩ (fun r => ∀ c : Dev Cert.WinReferenceIdeal.nD,
          r.2.mem ((c.tc : Thread Cert.WinReferenceIdeal.nD Cert.WinReferenceIdeal.τ).loc Cert.WinReferenceIdeal.main_v0) = v0 c
          ∧ r.2.mem ((c.tc : Thread Cert.WinReferenceIdeal.nD Cert.WinReferenceIdeal.τ).loc Cert.WinReferenceIdeal.main_arg0) = m' ((c.tc : Thread Cert.WinReferenceIdeal.nD Cert.WinReferenceIdeal.τ).loc Cert.WinReferenceIdeal.main_arg0)
          ∧ r.2.mem ((c.tc : Thread Cert.WinReferenceIdeal.nD Cert.WinReferenceIdeal.τ).loc Cert.WinReferenceIdeal.main_arg1) = m' ((c.tc : Thread Cert.WinReferenceIdeal.nD Cert.WinReferenceIdeal.τ).loc Cert.WinReferenceIdeal.main_arg1)
          ∧ r.2.mem ((c.tc : Thread Cert.WinReferenceIdeal.nD Cert.WinReferenceIdeal.τ).loc Cert.WinReferenceIdeal.main_arg2) = m' ((c.tc : Thread Cert.WinReferenceIdeal.nD Cert.WinReferenceIdeal.τ).loc Cert.WinReferenceIdeal.main_arg2))

def Claim : Prop :=
  ∃ (hKernel : Cert.Kernel.Facts) (hKernelIdeal : Cert.KernelIdeal.Facts) (hReferenceIdeal : Cert.ReferenceIdeal.Facts) (hQkvKernel : Cert.QkvKernel.Facts) (hQkvKernelIdeal : Cert.QkvKernelIdeal.Facts) (hQkvReferenceIdeal : Cert.QkvReferenceIdeal.Facts) (hWinKernel : Cert.WinKernel.Facts) (hWinKernelIdeal : Cert.WinKernelIdeal.Facts) (hWinReferenceIdeal : Cert.WinReferenceIdeal.Facts),
    quiescent_Kernel (hKernel := hKernel)
    ∧ quiescent_KernelIdeal (hKernelIdeal := hKernelIdeal)
    ∧ quiescent_ReferenceIdeal (hReferenceIdeal := hReferenceIdeal)
    ∧ quiescent_QkvKernel (hQkvKernel := hQkvKernel)
    ∧ quiescent_QkvKernelIdeal (hQkvKernelIdeal := hQkvKernelIdeal)
    ∧ quiescent_QkvReferenceIdeal (hQkvReferenceIdeal := hQkvReferenceIdeal)
    ∧ quiescent_WinKernel (hWinKernel := hWinKernel)
    ∧ quiescent_WinKernelIdeal (hWinKernelIdeal := hWinKernelIdeal)
    ∧ quiescent_WinReferenceIdeal (hWinReferenceIdeal := hWinReferenceIdeal)
    ∧ preserves_Kernel_KernelIdeal
    ∧ algebraic_KernelIdeal_ReferenceIdeal (hKernelIdeal := hKernelIdeal) (hReferenceIdeal := hReferenceIdeal)
    ∧ preserves_QkvKernel_QkvKernelIdeal
    ∧ algebraic_QkvKernelIdeal_QkvReferenceIdeal (hQkvKernelIdeal := hQkvKernelIdeal) (hQkvReferenceIdeal := hQkvReferenceIdeal)
    ∧ preserves_WinKernel_WinKernelIdeal
    ∧ algebraic_WinKernelIdeal_WinReferenceIdeal (hWinKernelIdeal := hWinKernelIdeal) (hWinReferenceIdeal := hWinReferenceIdeal)
-- ==== Kernel.lean ====
abbrev S2048x1280 : Shape := ⟨2, ![2048, 1280]⟩
abbrev S1280x1280 : Shape := ⟨2, ![1280, 1280]⟩
abbrev S1280 : Shape := ⟨1, ![1280]⟩
abbrev S1280x3420 : Shape := ⟨2, ![1280, 3420]⟩
abbrev S3420 : Shape := ⟨1, ![3420]⟩
abbrev S3420x1280 : Shape := ⟨2, ![3420, 1280]⟩
abbrev S1x1280 : Shape := ⟨2, ![1, 1280]⟩
abbrev S1x3420 : Shape := ⟨2, ![1, 3420]⟩
abbrev S1x2048 : Shape := ⟨2, ![1, 2048]⟩
abbrev S2048x3420 : Shape := ⟨2, ![2048, 3420]⟩
abbrev S256x1280 : Shape := ⟨2, ![256, 1280]⟩
abbrev S1x256 : Shape := ⟨2, ![1, 256]⟩
abbrev S256x3420 : Shape := ⟨2, ![256, 3420]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1280x256 : Shape := ⟨2, ![1280, 256]⟩
abbrev S256x256 : Shape := ⟨2, ![256, 256]⟩
abbrev S1280x92 : Shape := ⟨2, ![1280, 92]⟩
abbrev S256x92 : Shape := ⟨2, ![256, 92]⟩
abbrev S1x92 : Shape := ⟨2, ![1, 92]⟩
abbrev S3420x256 : Shape := ⟨2, ![3420, 256]⟩

abbrev nBuf : Space → Nat
  | .hbm => 31
  | .vmem => 33
  | .smem => 0
  | _ => 0

abbrev bufTy : (tb : Table) → Fin (tcTables nBuf tb) → BufTy
  | .hbm, ⟨0, _⟩ => ⟨S2048x1280, .bf16⟩
  | .hbm, ⟨1, _⟩ => ⟨S2048x1280, .f32⟩
  | .hbm, ⟨2, _⟩ => ⟨S1280x1280, .fp8e4m3⟩
  | .hbm, ⟨3, _⟩ => ⟨S1280, .f32⟩
  | .hbm, ⟨4, _⟩ => ⟨S1280, .f32⟩
  | .hbm, ⟨5, _⟩ => ⟨S1280, .f32⟩
  | .hbm, ⟨6, _⟩ => ⟨S1280x3420, .fp8e4m3⟩
  | .hbm, ⟨7, _⟩ => ⟨S3420, .f32⟩
  | .hbm, ⟨8, _⟩ => ⟨S3420, .f32⟩
  | .hbm, ⟨9, _⟩ => ⟨S1280x3420, .fp8e4m3⟩
  | .hbm, ⟨10, _⟩ => ⟨S3420, .f32⟩
  | .hbm, ⟨11, _⟩ => ⟨S3420, .f32⟩
  | .hbm, ⟨12, _⟩ => ⟨S3420x1280, .fp8e4m3⟩
  | .hbm, ⟨13, _⟩ => ⟨S1280, .f32⟩
  | .hbm, ⟨14, _⟩ => ⟨S1280, .f32⟩
  | .hbm, ⟨15, _⟩ => ⟨S1x1280, .f32⟩
  | .hbm, ⟨16, _⟩ => ⟨S1x1280, .f32⟩
  | .hbm, ⟨17, _⟩ => ⟨S1x1280, .f32⟩
  | .hbm, ⟨18, _⟩ => ⟨S1x3420, .f32⟩
  | .hbm, ⟨19, _⟩ => ⟨S1x3420, .f32⟩
  | .hbm, ⟨20, _⟩ => ⟨S1x3420, .f32⟩
  | .hbm, ⟨21, _⟩ => ⟨S1x3420, .f32⟩
  | .hbm, ⟨22, _⟩ => ⟨S1x1280, .f32⟩
  | .hbm, ⟨23, _⟩ => ⟨S1x1280, .f32⟩
  | .hbm, ⟨24, _⟩ => ⟨S2048x1280, .bf16⟩
  | .hbm, ⟨25, _⟩ => ⟨S2048x1280, .fp8e4m3⟩
  | .hbm, ⟨26, _⟩ => ⟨S1x2048, .f32⟩
  | .hbm, ⟨27, _⟩ => ⟨S2048x1280, .fp8e4m3⟩
  | .hbm, ⟨28, _⟩ => ⟨S1x2048, .f32⟩
  | .hbm, ⟨29, _⟩ => ⟨S2048x3420, .fp8e4m3⟩
  | .hbm, ⟨30, _⟩ => ⟨S1x2048, .f32⟩
  | .local _ .vmem, ⟨0, _⟩ => ⟨S256x1280, .bf16⟩
  | .local _ .vmem, ⟨1, _⟩ => ⟨S256x1280, .bf16⟩
  | .local _ .vmem, ⟨2, _⟩ => ⟨S256x1280, .f32⟩
  | .local _ .vmem, ⟨3, _⟩ => ⟨S256x1280, .f32⟩
  | .local _ .vmem, ⟨4, _⟩ => ⟨S1280x1280, .fp8e4m3⟩
  | .local _ .vmem, ⟨5, _⟩ => ⟨S1x1280, .f32⟩
  | .local _ .vmem, ⟨6, _⟩ => ⟨S1x1280, .f32⟩
  | .local _ .vmem, ⟨7, _⟩ => ⟨S1x1280, .f32⟩
  | .local _ .vmem, ⟨8, _⟩ => ⟨S1280x3420, .fp8e4m3⟩
  | .local _ .vmem, ⟨9, _⟩ => ⟨S1x3420, .f32⟩
  | .local _ .vmem, ⟨10, _⟩ => ⟨S1x3420, .f32⟩
  | .local _ .vmem, ⟨11, _⟩ => ⟨S1280x3420, .fp8e4m3⟩
  | .local _ .vmem, ⟨12, _⟩ => ⟨S1x3420, .f32⟩
  | .local _ .vmem, ⟨13, _⟩ => ⟨S1x3420, .f32⟩
  | .local _ .vmem, ⟨14, _⟩ => ⟨S3420x1280, .fp8e4m3⟩
  | .local _ .vmem, ⟨15, _⟩ => ⟨S1x1280, .f32⟩
  | .local _ .vmem, ⟨16, _⟩ => ⟨S1x1280, .f32⟩
  | .local _ .vmem, ⟨17, _⟩ => ⟨S256x1280, .bf16⟩
  | .local _ .vmem, ⟨18, _⟩ => ⟨S256x1280, .bf16⟩
  | .local _ .vmem, ⟨19, _⟩ => ⟨S256x1280, .fp8e4m3⟩
  | .local _ .vmem, ⟨20, _⟩ => ⟨S256x1280, .fp8e4m3⟩
  | .local _ .vmem, ⟨21, _⟩ => ⟨S1x256, .f32⟩
  | .local _ .vmem, ⟨22, _⟩ => ⟨S1x256, .f32⟩
  | .local _ .vmem, ⟨23, _⟩ => ⟨S256x1280, .fp8e4m3⟩
  | .local _ .vmem, ⟨24, _⟩ => ⟨S256x1280, .fp8e4m3⟩
  | .local _ .vmem, ⟨25, _⟩ => ⟨S1x256, .f32⟩
  | .local _ .vmem, ⟨26, _⟩ => ⟨S1x256, .f32⟩
  | .local _ .vmem, ⟨27, _⟩ => ⟨S256x3420, .fp8e4m3⟩
  | .local _ .vmem, ⟨28, _⟩ => ⟨S256x3420, .fp8e4m3⟩
  | .local _ .vmem, ⟨29, _⟩ => ⟨S1x256, .f32⟩
  | .local _ .vmem, ⟨30, _⟩ => ⟨S1x256, .f32⟩
  | .local _ .vmem, ⟨31, _⟩ => ⟨S256x1280, .f32⟩
  | .local _ .vmem, ⟨32, _⟩ => ⟨S256x3420, .f32⟩
  | _, _ => ⟨S2048x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9_0 : Ref sig .tc := ⟨.hbm, 24, rfl⟩
abbrev main_v9_1 : Ref sig .tc := ⟨.hbm, 25, rfl⟩
abbrev main_v9_2 : Ref sig .tc := ⟨.hbm, 26, rfl⟩
abbrev main_v9_3 : Ref sig .tc := ⟨.hbm, 27, rfl⟩
abbrev main_v9_4 : Ref sig .tc := ⟨.hbm, 28, rfl⟩
abbrev main_v9_5 : Ref sig .tc := ⟨.hbm, 29, rfl⟩
abbrev main_v9_6 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_scratch0 : Ref sig .tc := ⟨.vmem, 31, rfl⟩
abbrev cc0_scratch1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1280x1280 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1280x3420 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3420 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3420 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1280x3420 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3420 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x3420 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3420x1280 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1280 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1280 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1280 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1280 .fp8e4m3 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1280 .fp8e4m3 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x3420 .fp8e4m3 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== ReferenceIdeal.lean ====
abbrev S2048x1280 : Shape := ⟨2, ![2048, 1280]⟩
abbrev S1280x1280 : Shape := ⟨2, ![1280, 1280]⟩
abbrev S1280 : Shape := ⟨1, ![1280]⟩
abbrev S1280x3420 : Shape := ⟨2, ![1280, 3420]⟩
abbrev S3420 : Shape := ⟨1, ![3420]⟩
abbrev S3420x1280 : Shape := ⟨2, ![3420, 1280]⟩
abbrev S1x2048 : Shape := ⟨2, ![1, 2048]⟩
abbrev S2048x3420 : Shape := ⟨2, ![2048, 3420]⟩
abbrev S2048 : Shape := ⟨1, ![2048]⟩
abbrev S2048x1 : Shape := ⟨2, ![2048, 1]⟩
abbrev S1x1280 : Shape := ⟨2, ![1, 1280]⟩
abbrev S1x3420 : Shape := ⟨2, ![1, 3420]⟩

abbrev nBuf : Space → Nat
  | .hbm => 22
  | .vmem => 22
  | .smem => 0
  | _ => 0

abbrev bufTy : (tb : Table) → Fin (tcTables nBuf tb) → BufTy
  | .hbm, ⟨0, _⟩ => ⟨S2048x1280, .bf16⟩
  | .hbm, ⟨1, _⟩ => ⟨S2048x1280, .f32⟩
  | .hbm, ⟨2, _⟩ => ⟨S1280x1280, .fp8e4m3⟩
  | .hbm, ⟨3, _⟩ => ⟨S1280, .f32⟩
  | .hbm, ⟨4, _⟩ => ⟨S1280, .f32⟩
  | .hbm, ⟨5, _⟩ => ⟨S1280, .f32⟩
  | .hbm, ⟨6, _⟩ => ⟨S1280x3420, .fp8e4m3⟩
  | .hbm, ⟨7, _⟩ => ⟨S3420, .f32⟩
  | .hbm, ⟨8, _⟩ => ⟨S3420, .f32⟩
  | .hbm, ⟨9, _⟩ => ⟨S1280x3420, .fp8e4m3⟩
  | .hbm, ⟨10, _⟩ => ⟨S3420, .f32⟩
  | .hbm, ⟨11, _⟩ => ⟨S3420, .f32⟩
  | .hbm, ⟨12, _⟩ => ⟨S3420x1280, .fp8e4m3⟩
  | .hbm, ⟨13, _⟩ => ⟨S1280, .f32⟩
  | .hbm, ⟨14, _⟩ => ⟨S1280, .f32⟩
  | .hbm, ⟨15, _⟩ => ⟨S2048x1280, .bf16⟩
  | .hbm, ⟨16, _⟩ => ⟨S2048x1280, .fp8e4m3⟩
  | .hbm, ⟨17, _⟩ => ⟨S1x2048, .f32⟩
  | .hbm, ⟨18, _⟩ => ⟨S2048x1280, .fp8e4m3⟩
  | .hbm, ⟨19, _⟩ => ⟨S1x2048, .f32⟩
  | .hbm, ⟨20, _⟩ => ⟨S2048x3420, .fp8e4m3⟩
  | .hbm, ⟨21, _⟩ => ⟨S1x2048, .f32⟩
  | .local _ .vmem, ⟨0, _⟩ => ⟨S2048x1280, .bf16⟩
  | .local _ .vmem, ⟨1, _⟩ => ⟨S2048x1280, .f32⟩
  | .local _ .vmem, ⟨2, _⟩ => ⟨S1280x1280, .fp8e4m3⟩
  | .local _ .vmem, ⟨3, _⟩ => ⟨S1280, .f32⟩
  | .local _ .vmem, ⟨4, _⟩ => ⟨S1280, .f32⟩
  | .local _ .vmem, ⟨5, _⟩ => ⟨S1280, .f32⟩
  | .local _ .vmem, ⟨6, _⟩ => ⟨S1280x3420, .fp8e4m3⟩
  | .local _ .vmem, ⟨7, _⟩ => ⟨S3420, .f32⟩
  | .local _ .vmem, ⟨8, _⟩ => ⟨S3420, .f32⟩
  | .local _ .vmem, ⟨9, _⟩ => ⟨S1280x3420, .fp8e4m3⟩
  | .local _ .vmem, ⟨10, _⟩ => ⟨S3420, .f32⟩
  | .local _ .vmem, ⟨11, _⟩ => ⟨S3420, .f32⟩
  | .local _ .vmem, ⟨12, _⟩ => ⟨S3420x1280, .fp8e4m3⟩
  | .local _ .vmem, ⟨13, _⟩ => ⟨S1280, .f32⟩
  | .local _ .vmem, ⟨14, _⟩ => ⟨S1280, .f32⟩
  | .local _ .vmem, ⟨15, _⟩ => ⟨S2048x1280, .bf16⟩
  | .local _ .vmem, ⟨16, _⟩ => ⟨S2048x1280, .fp8e4m3⟩
  | .local _ .vmem, ⟨17, _⟩ => ⟨S1x2048, .f32⟩
  | .local _ .vmem, ⟨18, _⟩ => ⟨S2048x1280, .fp8e4m3⟩
  | .local _ .vmem, ⟨19, _⟩ => ⟨S1x2048, .f32⟩
  | .local _ .vmem, ⟨20, _⟩ => ⟨S2048x3420, .fp8e4m3⟩
  | .local _ .vmem, ⟨21, _⟩ => ⟨S1x2048, .f32⟩
  | _, _ => ⟨S2048x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_v0_4 : Ref sig .tc := ⟨.hbm, 19, rfl⟩
abbrev main_v0_5 : Ref sig .tc := ⟨.hbm, 20, rfl⟩
abbrev main_v0_6 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .vmem S2048x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1280x1280 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1280x3420 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3420 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3420 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1280x3420 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3420 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3420 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3420x1280 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1280 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1280 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2048x1280 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2048x1280 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2048x1280 .fp8e4m3 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2048x3420 .fp8e4m3 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x2048 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== QkvKernel.lean ====
abbrev S2048x1280 : Shape := ⟨2, ![2048, 1280]⟩
abbrev S1280 : Shape := ⟨1, ![1280]⟩
abbrev S1280x3840 : Shape := ⟨2, ![1280, 3840]⟩
abbrev S3840 : Shape := ⟨1, ![3840]⟩
abbrev S2048x80 : Shape := ⟨2, ![2048, 80]⟩
abbrev S2048 : Shape := ⟨1, ![2048]⟩
abbrev S1x1280 : Shape := ⟨2, ![1, 1280]⟩
abbrev S1x3840 : Shape := ⟨2, ![1, 3840]⟩
abbrev S1x2048 : Shape := ⟨2, ![1, 2048]⟩
abbrev S2048x2048 : Shape := ⟨2, ![2048, 2048]⟩
abbrev S1280x2048 : Shape := ⟨2, ![1280, 2048]⟩
abbrev S256x1280 : Shape := ⟨2, ![256, 1280]⟩
abbrev S256x80 : Shape := ⟨2, ![256, 80]⟩
abbrev S1x256 : Shape := ⟨2, ![1, 256]⟩
abbrev S2048x256 : Shape := ⟨2, ![2048, 256]⟩
abbrev S256x2048 : Shape := ⟨2, ![256, 2048]⟩
abbrev S1280x256 : Shape := ⟨2, ![1280, 256]⟩
abbrev S3840x1280 : Shape := ⟨2, ![3840, 1280]⟩
abbrev S3840x128 : Shape := ⟨2, ![3840, 128]⟩
abbrev S128x256 : Shape := ⟨2, ![128, 256]⟩
abbrev S256x128 : Shape := ⟨2, ![256, 128]⟩
abbrev S256 : Shape := ⟨1, ![256]⟩
abbrev S256x1 : Shape := ⟨2, ![256, 1]⟩
abbrev S80x256 : Shape := ⟨2, ![80, 256]⟩
abbrev S48x256 : Shape := ⟨2, ![48, 256]⟩
abbrev S320x1280 : Shape := ⟨2, ![320, 1280]⟩
abbrev S320x256 : Shape := ⟨2, ![320, 256]⟩
abbrev S320x128 : Shape := ⟨2, ![320, 128]⟩
abbrev S40x256 : Shape := ⟨2, ![40, 256]⟩

abbrev nBuf : Space → Nat
  | .hbm => 17
  | .vmem => 25
  | .smem => 0
  | _ => 0

abbrev bufTy : (tb : Table) → Fin (tcTables nBuf tb) → BufTy
  | .hbm, ⟨0, _⟩ => ⟨S2048x1280, .bf16⟩
  | .hbm, ⟨1, _⟩ => ⟨S1280, .f32⟩
  | .hbm, ⟨2, _⟩ => ⟨S1280x3840, .fp8e4m3⟩
  | .hbm, ⟨3, _⟩ => ⟨S3840, .f32⟩
  | .hbm, ⟨4, _⟩ => ⟨S3840, .f32⟩
  | .hbm, ⟨5, _⟩ => ⟨S2048x80, .f32⟩
  | .hbm, ⟨6, _⟩ => ⟨S2048x80, .f32⟩
  | .hbm, ⟨7, _⟩ => ⟨S2048, .i32⟩
  | .hbm, ⟨8, _⟩ => ⟨S1x1280, .f32⟩
  | .hbm, ⟨9, _⟩ => ⟨S1x3840, .f32⟩
  | .hbm, ⟨10, _⟩ => ⟨S1x3840, .f32⟩
  | .hbm, ⟨11, _⟩ => ⟨S1x2048, .i32⟩
  | .hbm, ⟨12, _⟩ => ⟨S2048x1280, .fp8e4m3⟩
  | .hbm, ⟨13, _⟩ => ⟨S1x2048, .f32⟩
  | .hbm, ⟨14, _⟩ => ⟨S2048x2048, .bf16⟩
  | .hbm, ⟨15, _⟩ => ⟨S2048x2048, .bf16⟩
  | .hbm, ⟨16, _⟩ => ⟨S1280x2048, .bf16⟩
  | .local _ .vmem, ⟨0, _⟩ => ⟨S256x1280, .bf16⟩
  | .local _ .vmem, ⟨1, _⟩ => ⟨S256x1280, .bf16⟩
  | .local _ .vmem, ⟨2, _⟩ => ⟨S1x1280, .f32⟩
  | .local _ .vmem, ⟨3, _⟩ => ⟨S1280x3840, .fp8e4m3⟩
  | .local _ .vmem, ⟨4, _⟩ => ⟨S1x3840, .f32⟩
  | .local _ .vmem, ⟨5, _⟩ => ⟨S1x3840, .f32⟩
  | .local _ .vmem, ⟨6, _⟩ => ⟨S256x80, .f32⟩
  | .local _ .vmem, ⟨7, _⟩ => ⟨S256x80, .f32⟩
  | .local _ .vmem, ⟨8, _⟩ => ⟨S256x80, .f32⟩
  | .local _ .vmem, ⟨9, _⟩ => ⟨S256x80, .f32⟩
  | .local _ .vmem, ⟨10, _⟩ => ⟨S1x256, .i32⟩
  | .local _ .vmem, ⟨11, _⟩ => ⟨S1x256, .i32⟩
  | .local _ .vmem, ⟨12, _⟩ => ⟨S256x1280, .fp8e4m3⟩
  | .local _ .vmem, ⟨13, _⟩ => ⟨S256x1280, .fp8e4m3⟩
  | .local _ .vmem, ⟨14, _⟩ => ⟨S1x256, .f32⟩
  | .local _ .vmem, ⟨15, _⟩ => ⟨S1x256, .f32⟩
  | .local _ .vmem, ⟨16, _⟩ => ⟨S2048x256, .bf16⟩
  | .local _ .vmem, ⟨17, _⟩ => ⟨S2048x256, .bf16⟩
  | .local _ .vmem, ⟨18, _⟩ => ⟨S256x2048, .bf16⟩
  | .local _ .vmem, ⟨19, _⟩ => ⟨S256x2048, .bf16⟩
  | .local _ .vmem, ⟨20, _⟩ => ⟨S1280x256, .bf16⟩
  | .local _ .vmem, ⟨21, _⟩ => ⟨S1280x256, .bf16⟩
  | .local _ .vmem, ⟨22, _⟩ => ⟨S3840x1280, .fp8e4m3⟩
  | .local _ .vmem, ⟨23, _⟩ => ⟨S3840x128, .f32⟩
  | .local _ .vmem, ⟨24, _⟩ => ⟨S3840x128, .f32⟩
  | _, _ => ⟨S2048x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1280x3840 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3840 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3840 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x80 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x80 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1280 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1280x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== QkvReferenceIdeal.lean ====
abbrev S2048x1280 : Shape := ⟨2, ![2048, 1280]⟩
abbrev S1280 : Shape := ⟨1, ![1280]⟩
abbrev S1280x3840 : Shape := ⟨2, ![1280, 3840]⟩
abbrev S3840 : Shape := ⟨1, ![3840]⟩
abbrev S2048x80 : Shape := ⟨2, ![2048, 80]⟩
abbrev S2048 : Shape := ⟨1, ![2048]⟩
abbrev S1x2048 : Shape := ⟨2, ![1, 2048]⟩
abbrev S2048x2048 : Shape := ⟨2, ![2048, 2048]⟩
abbrev S1280x2048 : Shape := ⟨2, ![1280, 2048]⟩
abbrev S2048x1 : Shape := ⟨2, ![2048, 1]⟩
abbrev S1x1280 : Shape := ⟨2, ![1, 1280]⟩
abbrev S1280x1280 : Shape := ⟨2, ![1280, 1280]⟩
abbrev S2048x16x80 : Shape := ⟨3, ![2048, 16, 80]⟩
abbrev S2048x16x40 : Shape := ⟨3, ![2048, 16, 40]⟩
abbrev S2048x1x80 : Shape := ⟨3, ![2048, 1, 80]⟩
abbrev S2048x48 : Shape := ⟨2, ![2048, 48]⟩
abbrev S2048x1x48 : Shape := ⟨3, ![2048, 1, 48]⟩
abbrev S2048x16x48 : Shape := ⟨3, ![2048, 16, 48]⟩
abbrev S2048x16x128 : Shape := ⟨3, ![2048, 16, 128]⟩

abbrev nBuf : Space → Nat
  | .hbm => 13
  | .vmem => 13
  | .smem => 0
  | _ => 0

abbrev bufTy : (tb : Table) → Fin (tcTables nBuf tb) → BufTy
  | .hbm, ⟨0, _⟩ => ⟨S2048x1280, .bf16⟩
  | .hbm, ⟨1, _⟩ => ⟨S1280, .f32⟩
  | .hbm, ⟨2, _⟩ => ⟨S1280x3840, .fp8e4m3⟩
  | .hbm, ⟨3, _⟩ => ⟨S3840, .f32⟩
  | .hbm, ⟨4, _⟩ => ⟨S3840, .f32⟩
  | .hbm, ⟨5, _⟩ => ⟨S2048x80, .f32⟩
  | .hbm, ⟨6, _⟩ => ⟨S2048x80, .f32⟩
  | .hbm, ⟨7, _⟩ => ⟨S2048, .i32⟩
  | .hbm, ⟨8, _⟩ => ⟨S2048x1280, .fp8e4m3⟩
  | .hbm, ⟨9, _⟩ => ⟨S1x2048, .f32⟩
  | .hbm, ⟨10, _⟩ => ⟨S2048x2048, .bf16⟩
  | .hbm, ⟨11, _⟩ => ⟨S2048x2048, .bf16⟩
  | .hbm, ⟨12, _⟩ => ⟨S1280x2048, .bf16⟩
  | .local _ .vmem, ⟨0, _⟩ => ⟨S2048x1280, .bf16⟩
  | .local _ .vmem, ⟨1, _⟩ => ⟨S1280, .f32⟩
  | .local _ .vmem, ⟨2, _⟩ => ⟨S1280x3840, .fp8e4m3⟩
  | .local _ .vmem, ⟨3, _⟩ => ⟨S3840, .f32⟩
  | .local _ .vmem, ⟨4, _⟩ => ⟨S3840, .f32⟩
  | .local _ .vmem, ⟨5, _⟩ => ⟨S2048x80, .f32⟩
  | .local _ .vmem, ⟨6, _⟩ => ⟨S2048x80, .f32⟩
  | .local _ .vmem, ⟨7, _⟩ => ⟨S2048, .i32⟩
  | .local _ .vmem, ⟨8, _⟩ => ⟨S2048x1280, .fp8e4m3⟩
  | .local _ .vmem, ⟨9, _⟩ => ⟨S1x2048, .f32⟩
  | .local _ .vmem, ⟨10, _⟩ => ⟨S2048x2048, .bf16⟩
  | .local _ .vmem, ⟨11, _⟩ => ⟨S2048x2048, .bf16⟩
  | .local _ .vmem, ⟨12, _⟩ => ⟨S1280x2048, .bf16⟩
  | _, _ => ⟨S2048x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S2048x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1280x3840 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3840 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3840 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x80 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x80 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x1280 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1280x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== WinKernel.lean ====
abbrev S2048x2048 : Shape := ⟨2, ![2048, 2048]⟩
abbrev S2176x2048 : Shape := ⟨2, ![2176, 2048]⟩
abbrev S1280x2176 : Shape := ⟨2, ![1280, 2176]⟩
abbrev S2048x1280 : Shape := ⟨2, ![2048, 1280]⟩
abbrev S2048x128 : Shape := ⟨2, ![2048, 128]⟩
abbrev S128x1280 : Shape := ⟨2, ![128, 1280]⟩
abbrev S1280x128 : Shape := ⟨2, ![1280, 128]⟩
abbrev S256x256 : Shape := ⟨2, ![256, 256]⟩
abbrev S128x128 : Shape := ⟨2, ![128, 128]⟩
abbrev S128x256 : Shape := ⟨2, ![128, 256]⟩
abbrev S256 : Shape := ⟨1, ![256]⟩
abbrev S1x256 : Shape := ⟨2, ![1, 256]⟩
abbrev S80x256 : Shape := ⟨2, ![80, 256]⟩
abbrev S256x128 : Shape := ⟨2, ![256, 128]⟩
abbrev S80x128 : Shape := ⟨2, ![80, 128]⟩
abbrev S1x128 : Shape := ⟨2, ![1, 128]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2176x2048, .bf16⟩
  | .hbm, ⟨2, _⟩ => ⟨S1280x2176, .bf16⟩
  | .hbm, ⟨3, _⟩ => ⟨S2048x1280, .f32⟩
  | .local _ .vmem, ⟨0, _⟩ => ⟨S2048x128, .bf16⟩
  | .local _ .vmem, ⟨1, _⟩ => ⟨S2048x128, .bf16⟩
  | .local _ .vmem, ⟨2, _⟩ => ⟨S2176x2048, .bf16⟩
  | .local _ .vmem, ⟨3, _⟩ => ⟨S1280x2176, .bf16⟩
  | .local _ .vmem, ⟨4, _⟩ => ⟨S128x1280, .f32⟩
  | .local _ .vmem, ⟨5, _⟩ => ⟨S128x1280, .f32⟩
  | .local _ .vmem, ⟨6, _⟩ => ⟨S1280x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c128_i32 : BitVec 32 := 128#32
  let v0 : BitVec 32 := Scalar.muli arg0 c128_i32
  v0
def k0_off1 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let v3 : Index := Scalar.indexCast v1
  let c0_1 : Index := 0#32
  ![v3.toNat, 0]
def k0_off2 (i : grid0.Coords) : Fin 2 → Nat :=
  let c0_6 : Index := 0#32
  let arg0 : BitVec 32 := BitVec.ofNat 32 (i 0).val
  let c128_i32 : BitVec 32 := 128#32
  let v0 : BitVec 32 := Scalar.muli arg0 c128_i32
  let v1 : BitVec 32 := v0
  let v23 : Index := Scalar.indexCast v1
  ![0, v23.toNat]
def k0_off3 (i : grid0.Coords) : Fin 2 → Nat :=
  let c80 : Index := 80#32
  let arg0 : BitVec 32 := BitVec.ofNat 32 (i 0).val
  let c128_i32 : BitVec 32 := 128#32
  let v0 : BitVec 32 := Scalar.muli arg0 c128_i32
  let v1 : BitVec 32 := v0
  let v33 : Index := Scalar.indexCast v1
  ![80, v33.toNat]
def k0_off4 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let v43 : Index := Scalar.indexCast v1
  let c256 : Index := 256#32
  ![v43.toNat, 256]
def k0_off5 (i : grid0.Coords) : Fin 2 → Nat :=
  let c160 : Index := 160#32
  let arg0 : BitVec 32 := BitVec.ofNat 32 (i 0).val
  let c128_i32 : BitVec 32 := 128#32
  let v0 : BitVec 32 := Scalar.muli arg0 c128_i32
  let v1 : BitVec 32 := v0
  let v63 : Index := Scalar.indexCast v1
  ![160, v63.toNat]
def k0_off6 (i : grid0.Coords) : Fin 2 → Nat :=
  let c240 : Index := 240#32
  let arg0 : BitVec 32 := BitVec.ofNat 32 (i 0).val
  let c128_i32 : BitVec 32 := 128#32
  let v0 : BitVec 32 := Scalar.muli arg0 c128_i32
  let v1 : BitVec 32 := v0
  let v73 : Index := Scalar.indexCast v1
  ![240, v73.toNat]
def k0_off7 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let v83 : Index := Scalar.indexCast v1
  let c512 : Index := 512#32
  ![v83.toNat, 512]
def k0_off8 (i : grid0.Coords) : Fin 2 → Nat :=
  let c320 : Index := 320#32
  let arg0 : BitVec 32 := BitVec.ofNat 32 (i 0).val
  let c128_i32 : BitVec 32 := 128#32
  let v0 : BitVec 32 := Scalar.muli arg0 c128_i32
  let v1 : BitVec 32 := v0
  let v103 : Index := Scalar.indexCast v1
  ![320, v103.toNat]
def k0_off9 (i : grid0.Coords) : Fin 2 → Nat :=
  let c400 : Index := 400#32
  let arg0 : BitVec 32 := BitVec.ofNat 32 (i 0).val
  let c128_i32 : BitVec 32 := 128#32
  let v0 : BitVec 32 := Scalar.muli arg0 c128_i32
  let v1 : BitVec 32 := v0
  let v113 : Index := Scalar.indexCast v1
  ![400, v113.toNat]
def k0_off10 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let v123 : Index := Scalar.indexCast v1
  let c768 : Index := 768#32
  ![v123.toNat, 768]
def k0_off11 (i : grid0.Coords) : Fin 2 → Nat :=
  let c480 : Index := 480#32
  let arg0 : BitVec 32 := BitVec.ofNat 32 (i 0).val
  let c128_i32 : BitVec 32 := 128#32
  let v0 : BitVec 32 := Scalar.muli arg0 c128_i32
  let v1 : BitVec 32 := v0
  let v143 : Index := Scalar.indexCast v1
  ![480, v143.toNat]
def k0_off12 (i : grid0.Coords) : Fin 2 → Nat :=
  let c560 : Index := 560#32
  let arg0 : BitVec 32 := BitVec.ofNat 32 (i 0).val
  let c128_i32 : BitVec 32 := 128#32
  let v0 : BitVec 32 := Scalar.muli arg0 c128_i32
  let v1 : BitVec 32 := v0
  let v153 : Index := Scalar.indexCast v1
  ![560, v153.toNat]
def k0_off13 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let v163 : Index := Scalar.indexCast v1
  let c1024 : Index := 1024#32
  ![v163.toNat, 1024]
def k0_off14 (i : grid0.Coords) : Fin 2 → Nat :=
  let c640 : Index := 640#32
  let arg0 : BitVec 32 := BitVec.ofNat 32 (i 0).val
  let c128_i32 : BitVec 32 := 128#32
  let v0 : BitVec 32 := Scalar.muli arg0 c128_i32
  let v1 : BitVec 32 := v0
  let v183 : Index := Scalar.indexCast v1
  ![640, v183.toNat]
def k0_off15 (i : grid0.Coords) : Fin 2 → Nat :=
  let c720 : Index := 720#32
  let arg0 : BitVec 32 := BitVec.ofNat 32 (i 0).val
  let c128_i32 : BitVec 32 := 128#32
  let v0 : BitVec 32 := Scalar.muli arg0 c128_i32
  let v1 : BitVec 32 := v0
  let v193 : Index := Scalar.indexCast v1
  ![720, v193.toNat]
def k0_off16 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let v203 : Index := Scalar.indexCast v1
  let c1280 : Index := 1280#32
  ![v203.toNat, 1280]
def k0_off17 (i : grid0.Coords) : Fin 2 → Nat :=
  let c800 : Index := 800#32
  let arg0 : BitVec 32 := BitVec.ofNat 32 (i 0).val
  let c128_i32 : BitVec 32 := 128#32
  let v0 : BitVec 32 := Scalar.muli arg0 c128_i32
  let v1 : BitVec 32 := v0
  let v223 : Index := Scalar.indexCast v1
  ![800, v223.toNat]
def k0_off18 (i : grid0.Coords) : Fin 2 → Nat :=
  let c880 : Index := 880#32
  let arg0 : BitVec 32 := BitVec.ofNat 32 (i 0).val
  let c128_i32 : BitVec 32 := 128#32
  let v0 : BitVec 32 := Scalar.muli arg0 c128_i32
  let v1 : BitVec 32 := v0
  let v233 : Index := Scalar.indexCast v1
  ![880, v233.toNat]
def k0_off19 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let v243 : Index := Scalar.indexCast v1
  let c1536 : Index := 1536#32
  ![v243.toNat, 1536]
def k0_off20 (i : grid0.Coords) : Fin 2 → Nat :=
  let c960 : Index := 960#32
  let arg0 : BitVec 32 := BitVec.ofNat 32 (i 0).val
  let c128_i32 : BitVec 32 := 128#32
  let v0 : BitVec 32 := Scalar.muli arg0 c128_i32
  let v1 : BitVec 32 := v0
  let v263 : Index := Scalar.indexCast v1
  ![960, v263.toNat]
def k0_off21 (i : grid0.Coords) : Fin 2 → Nat :=
  let c1040 : Index := 1040#32
  let arg0 : BitVec 32 := BitVec.ofNat 32 (i 0).val
  let c128_i32 : BitVec 32 := 128#32
  let v0 : BitVec 32 := Scalar.muli arg0 c128_i32
  let v1 : BitVec 32 := v0
  let v273 : Index := Scalar.indexCast v1
  ![1040, v273.toNat]
def k0_off22 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let v283 : Index := Scalar.indexCast v1
  let c1792 : Index := 1792#32
  ![v283.toNat, 1792]
def k0_off23 (i : grid0.Coords) : Fin 2 → Nat :=
  let c1120 : Index := 1120#32
  let arg0 : BitVec 32 := BitVec.ofNat 32 (i 0).val
  let c128_i32 : BitVec 32 := 128#32
  let v0 : BitVec 32 := Scalar.muli arg0 c128_i32
  let v1 : BitVec 32 := v0
  let v303 : Index := Scalar.indexCast v1
  ![1120, v303.toNat]
def k0_off24 (i : grid0.Coords) : Fin 2 → Nat :=
  let c1200 : Index := 1200#32
  let arg0 : BitVec 32 := BitVec.ofNat 32 (i 0).val
  let c128_i32 : BitVec 32 := 128#32
  let v0 : BitVec 32 := Scalar.muli arg0 c128_i32
  let v1 : BitVec 32 := v0
  let v313 : Index := Scalar.indexCast v1
  ![1200, v313.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2176x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1280x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== WinReferenceIdeal.lean ====
abbrev S2048x2048 : Shape := ⟨2, ![2048, 2048]⟩
abbrev S2176x2048 : Shape := ⟨2, ![2176, 2048]⟩
abbrev S1280x2176 : Shape := ⟨2, ![1280, 2176]⟩
abbrev S2048x1280 : Shape := ⟨2, ![2048, 1280]⟩
abbrev S16x128x16x128 : Shape := ⟨4, ![16, 128, 16, 128]⟩
abbrev S16x16x128x128 : Shape := ⟨4, ![16, 16, 128, 128]⟩
abbrev S256x128x128 : Shape := ⟨3, ![256, 128, 128]⟩
abbrev S17x128x2048 : Shape := ⟨3, ![17, 128, 2048]⟩
abbrev S16x128x2048 : Shape := ⟨3, ![16, 128, 2048]⟩
abbrev S16x256x2048 : Shape := ⟨3, ![16, 256, 2048]⟩
abbrev S16x256x16x128 : Shape := ⟨4, ![16, 256, 16, 128]⟩
abbrev S16x16x256x128 : Shape := ⟨4, ![16, 16, 256, 128]⟩
abbrev S2176x1280 : Shape := ⟨2, ![2176, 1280]⟩
abbrev S17x128x1280 : Shape := ⟨3, ![17, 128, 1280]⟩
abbrev S16x128x1280 : Shape := ⟨3, ![16, 128, 1280]⟩
abbrev S16x256x1280 : Shape := ⟨3, ![16, 256, 1280]⟩
abbrev S16x256x16x80 : Shape := ⟨4, ![16, 256, 16, 80]⟩
abbrev S16x16x256x80 : Shape := ⟨4, ![16, 16, 256, 80]⟩
abbrev S256x256x128 : Shape := ⟨3, ![256, 256, 128]⟩
abbrev S256x256x80 : Shape := ⟨3, ![256, 256, 80]⟩
abbrev S256x128x256 : Shape := ⟨3, ![256, 128, 256]⟩
abbrev S256x128 : Shape := ⟨2, ![256, 128]⟩
abbrev S256x128x1 : Shape := ⟨3, ![256, 128, 1]⟩
abbrev S256x128x80 : Shape := ⟨3, ![256, 128, 80]⟩
abbrev S16x16x128x80 : Shape := ⟨4, ![16, 16, 128, 80]⟩
abbrev S16x128x16x80 : Shape := ⟨4, ![16, 128, 16, 80]⟩

abbrev nBuf : Space → Nat
  | .hbm => 4
  | .vmem => 4
  | .smem => 0
  | _ => 0

abbrev bufTy : (tb : Table) → Fin (tcTables nBuf tb) → BufTy
  | .hbm, ⟨0, _⟩ => ⟨S2048x2048, .bf16⟩
  | .hbm, ⟨1, _⟩ => ⟨S2176x2048, .bf16⟩
  | .hbm, ⟨2, _⟩ => ⟨S1280x2176, .bf16⟩
  | .hbm, ⟨3, _⟩ => ⟨S2048x1280, .f32⟩
  | .local _ .vmem, ⟨0, _⟩ => ⟨S2048x2048, .bf16⟩
  | .local _ .vmem, ⟨1, _⟩ => ⟨S2176x2048, .bf16⟩
  | .local _ .vmem, ⟨2, _⟩ => ⟨S1280x2176, .bf16⟩
  | .local _ .vmem, ⟨3, _⟩ => ⟨S2048x1280, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2176x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1280x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Rows.lean ====
module

public import Idealize.ShloMosaic.Lib.Pointwise

@[expose] public section

set_option maxRecDepth 16384

noncomputable section

namespace Cert.Rows

open Idealize.ShloMosaic

/-! The stage on ONE row (one token), over the extended reals and with no shapes: what both programs compute for a row of
the residual `h`, a row of the attention output and the weights. -/

/-- The largest absolute value of a row. -/
def amax {n : ℕ} (v : Fin n → EReal) : EReal :=
  Finset.fold max (Ideal.ofBits FTy.f32 0xFF800000#32) (fun x => FloatOps.absf (F := Ideal) (φ := .f32) (v x)) Finset.univ

/-- The row's quantisation scale: largest absolute value over 448, and one for a row of zeros. -/
def qscale {n : ℕ} (v : Fin n → EReal) : EReal :=
  if amax v = 0 then 1 else Ideal.div (amax v) (Ideal.ofBits FTy.f32 0x43E00000#32)

/-- The row's codes: each entry over the scale, kept between -448 and 448. -/
def qcode {n : ℕ} (v : Fin n → EReal) (j : Fin n) : EReal :=
  min (Ideal.ofBits FTy.f32 0x43E00000#32) (max (Ideal.ofBits FTy.f32 0xC3E00000#32) (Ideal.div (v j) (qscale v)))

/-- A linear layer on a quantised row: codes times weight codes, times both scales, plus the bias. -/
def lin {k n : ℕ} (v : Fin k → EReal) (w : Fin k → Fin n → EReal) (ws b : Fin n → EReal) (j : Fin n) : EReal :=
  (∑ x : Fin k, qcode v x * w x j) * qscale v * ws j + b j

/-- The residual row after the attention output projection. -/
def h1 (h attn : Fin 1280 → EReal) (wo : Fin 1280 → Fin 1280 → EReal) (so bo : Fin 1280 → EReal) (j : Fin 1280) : EReal :=
  h j + lin attn wo so bo j

/-- The mean of a row's squares. -/
def meansq (v : Fin 1280 → EReal) : EReal :=
  Ideal.div (∑ x : Fin 1280, v x * v x) (Ideal.ofBits FTy.f32 0x44A00000#32)

/-- Root-mean-square normalisation of a row, times the gain. -/
def rms (v g : Fin 1280 → EReal) (j : Fin 1280) : EReal :=
  Ideal.div (v j) (Ideal.sqrt (meansq v + Ideal.ofBits FTy.f32 0x358637BD#32)) * g j

/-- The gated activation of a normalised row. -/
def act (x : Fin 1280 → EReal) (wg : Fin 1280 → Fin 3420 → EReal) (sg bg : Fin 3420 → EReal)
    (wu : Fin 1280 → Fin 3420 → EReal) (su bu : Fin 3420 → EReal) (j : Fin 3420) : EReal :=
  lin x wg sg bg j * Ideal.logistic (lin x wg sg bg j) * lin x wu su bu j

/-- The block's output row. -/
def out (v : Fin 1280 → EReal) (a : Fin 3420 → EReal) (wd : Fin 3420 → Fin 1280 → EReal) (sd bd : Fin 1280 → EReal)
    (j : Fin 1280) : EReal :=
  v j + lin a wd sd bd j

end Cert.Rows
-- ==== Proof.VRows.lean ====
module

public import proofs.«01_k».proof.Proof.Rows
public import Idealize.ShloMosaic.Lib.MatmulPlain

@[expose] public section

set_option maxRecDepth 16384

noncomputable section

namespace Cert.VRows

open Idealize.ShloMosaic

/-! The vector operations both programs are made of, for any number of rows and columns, read at an index as the row
functions of Proof/Rows.lean. -/

variable {n k m : ℕ}

/-- An `n × m` matrix shape. -/
abbrev M (n m : ℕ) : Shape := ⟨2, ![n, m]⟩

/-- A vector shape. -/
abbrev V (n : ℕ) : Shape := ⟨1, ![n]⟩

/-- A product into zero, at an index. -/
theorem mm_apply {φ ψ : FTy} (a : FVec Ideal (M n k) φ) (b : FVec Ideal (M k m) ψ) (r : Fin n) (j : Fin m) :
    matmul (F := Ideal) (DotDims.plain n k m) none a b (constant (M n m) .f32 0x00000000#32) (ix2 r j)
      = ∑ x : Fin k, a (ix2 r x) * b (ix2 x j) := by
  refine (Ideal.matmul_plain_apply none a b (constant (M n m) .f32 0x00000000#32) r j).trans ?_
  pointwise
  rfl

/-- The largest absolute value of each row. -/
theorem maxabs_apply (v : FVec Ideal (M n m) .f32) (h : (M n m).Reduces [1] (V n)) (hφ) (hs) (r : Fin n) :
    multiReduction (F := Ideal) .maximumf [1] (V n) (absf v) 0xFF800000#32 h hφ hs (ix1 r)
      = Rows.amax fun j => v (ix2 r j) := by
  pointwise
  rfl

/-- The sum of each row's squares. -/
theorem sumsq_apply (v : FVec Ideal (M n m) .f32) (h : (M n m).Reduces [1] (V n)) (hφ) (hs) (r : Fin n) :
    multiReduction (F := Ideal) .add [1] (V n) (mulf v v) 0x00000000#32 h hφ hs (ix1 r)
      = ∑ j : Fin m, v (ix2 r j) * v (ix2 r j) := by
  pointwise

/-- A scale from a largest absolute value, entry by entry. -/
theorem scale_apply {s : Shape} (a : FVec Ideal s .f32) (y : s.Idx) :
    select (cmpf .oeq a (broadcast s (Scalar.ofBits .f32 0x00000000#32))) (broadcast s (Scalar.ofBits .f32 0x3F800000#32))
        (divf a (broadcast s (Scalar.ofBits .f32 0x43E00000#32))) y
      = if a y = 0 then 1 else Ideal.div (a y) (Ideal.ofBits FTy.f32 0x43E00000#32) := by
  pointwise

/-- A vector recast as one column. -/
theorem col_apply (a : FVec Ideal (V n) .f32) (h : (V n).ShapeCasts (M n 1)) (r : Fin n) :
    shapeCast (M n 1) a h (ix2 r 0) = a (ix1 r) := by
  refine congrArg a (Shape.reshapeEquiv_eq_of_rowMajor h ?_)
  rw [rowMajor_val1, rowMajor_val2 _ 1 rfl]
  simp

/-- A vector recast as one row. -/
theorem row_apply {φ : FTy} (a : FVec Ideal (V n) φ) (h : (V n).ShapeCasts (M 1 n)) (r : Fin n) :
    shapeCast (M 1 n) a h (ix2 0 r) = a (ix1 r) := by
  refine congrArg a (Shape.reshapeEquiv_eq_of_rowMajor h ?_)
  rw [rowMajor_val1, rowMajor_val2 _ n rfl]
  simp

/-- A column repeated along the rows. -/
theorem bcol_apply (a : FVec Ideal (M n 1) .f32) (h : (M n 1).Broadcasts (M n m)) (r : Fin n) (j : Fin m) :
    broadcastTo (M n m) a h (ix2 r j) = a (ix2 r 0) := by
  refine congrArg a (funext fun x => Fin.ext ?_)
  refine Fin.cases ?_ (fun x => Fin.cases ?_ (fun x => x.elim0) x) x
  · by_cases e : n = 1
    · refine (congrArg Fin.val (dif_pos e)).trans ?_
      have := r.isLt
      show 0 = r.val
      omega
    · exact congrArg Fin.val (dif_neg e)
  · pointwise

/-- A row repeated down the columns. -/
theorem brow_apply (a : FVec Ideal (M 1 m) .f32) (h : (M 1 m).Broadcasts (M n m)) (r : Fin n) (j : Fin m) :
    broadcastTo (M n m) a h (ix2 r j) = a (ix2 0 j) := by
  refine congrArg a (funext fun x => Fin.ext ?_)
  refine Fin.cases ?_ (fun x => Fin.cases ?_ (fun x => x.elim0) x) x
  · pointwise
  · by_cases e : m = 1
    · refine (congrArg Fin.val (dif_pos e)).trans ?_
      have := j.isLt
      show 0 = j.val
      omega
    · exact congrArg Fin.val (dif_neg e)

/-- The kernel's way of turning a column into a row: repeat it, transpose, keep the first row. -/
theorem turn_apply {l : ℕ} [NeZero l] (a : FVec Ideal (M n 1) .f32) (h0 : (M n 1).ShapeCasts (M n 1))
    (h : (M n 1).Broadcasts (M n l)) (ht : (M n l).Transposes [1, 0] (M l n)) (hs : (M l n).Slices ![0, 0] (M 1 n)) (r : Fin n) :
    extractStridedSlice (M 1 n) ![0, 0] (transpose (M l n) [1, 0] (broadcastTo (M n l) (shapeCast (M n 1) a h0) h) ht) hs
      (ix2 0 r) = a (ix2 r 0) := by
  rw [shapeCast_id]
  have e : ∀ x : (M n l).Idx, broadcastTo (M n l) a h x = a (ix2 (x 0) 0) := fun x => by
    rw [show x = ix2 (x 0) (x 1) from eq_ix2 x]; exact bcol_apply a h _ _
  refine (e _).trans (congrArg a ?_)
  refine congrArg (fun q => ix2 q 0) (Fin.ext ?_)
  pointwise

/-- The rows' scales as a vector. -/
def scale1 (v : FVec Ideal (M n m) .f32) (h : (M n m).Reduces [1] (V n)) : FVec Ideal (V n) .f32 :=
  select (cmpf .oeq (multiReduction .maximumf [1] (V n) (absf v) 0xFF800000#32 h (.inl rfl) rfl)
      (broadcast (V n) (Scalar.ofBits .f32 0x00000000#32)))
    (broadcast (V n) (Scalar.ofBits .f32 0x3F800000#32))
    (divf (multiReduction .maximumf [1] (V n) (absf v) 0xFF800000#32 h (.inl rfl) rfl)
      (broadcast (V n) (Scalar.ofBits .f32 0x43E00000#32)))

/-- A row's entry of them. -/
theorem scale1_apply (v : FVec Ideal (M n m) .f32) (h : (M n m).Reduces [1] (V n)) (r : Fin n) :
    scale1 v h (ix1 r) = Rows.qscale fun j => v (ix2 r j) := by
  refine (scale_apply _ _).trans ?_
  unfold Rows.qscale
  rw [← maxabs_apply v h (.inl rfl) rfl r]

/-- The rows' scales as a column. -/
def scale2 (v : FVec Ideal (M n m) .f32) (h : (M n m).Reduces [1] (V n)) (hc : (V n).ShapeCasts (M n 1)) :
    FVec Ideal (M n 1) .f32 :=
  select (cmpf .oeq (shapeCast (M n 1) (multiReduction .maximumf [1] (V n) (absf v) 0xFF800000#32 h (.inl rfl) rfl) hc)
      (broadcast (M n 1) (Scalar.ofBits .f32 0x00000000#32)))
    (broadcast (M n 1) (Scalar.ofBits .f32 0x3F800000#32))
    (divf (shapeCast (M n 1) (multiReduction .maximumf [1] (V n) (absf v) 0xFF800000#32 h (.inl rfl) rfl) hc)
      (broadcast (M n 1) (Scalar.ofBits .f32 0x43E00000#32)))

/-- A row's entry of them. -/
theorem scale2_apply (v : FVec Ideal (M n m) .f32) (h : (M n m).Reduces [1] (V n)) (hc : (V n).ShapeCasts (M n 1))
    (r : Fin n) : scale2 v h hc (ix2 r 0) = Rows.qscale fun j => v (ix2 r j) := by
  refine (scale_apply _ _).trans ?_
  unfold Rows.qscale
  rw [← (col_apply _ hc r).trans (maxabs_apply v h (.inl rfl) rfl r)]

/-- The codes, from the values and the column of scales. -/
def codes (v : FVec Ideal (M n m) .f32) (s : FVec Ideal (M n 1) .f32) (hb : (M n 1).Broadcasts (M n m)) :
    FVec Ideal (M n m) .fp8e4m3 :=
  truncf .fp8e4m3 (minimumf (broadcast (M n m) (Scalar.ofBits .f32 0x43E00000#32))
    (maximumf (broadcast (M n m) (Scalar.ofBits .f32 0xC3E00000#32)) (divf v (broadcastTo (M n m) s hb)))) (by decide)

/-- A code, where the column holds the row's scale. -/
theorem codes_apply (v : FVec Ideal (M n m) .f32) (s : FVec Ideal (M n 1) .f32) (hb : (M n 1).Broadcasts (M n m))
    (r : Fin n) (hs : s (ix2 r 0) = Rows.qscale fun j => v (ix2 r j)) (j : Fin m) :
    codes v s hb (ix2 r j) = Rows.qcode (fun j => v (ix2 r j)) j := by
  unfold Rows.qcode
  rw [← hs, ← bcol_apply s hb r j]
  rfl

/-- A linear layer on codes. -/
def lin (c : FVec Ideal (M n k) .fp8e4m3) (s : FVec Ideal (M n 1) .f32) (w : FVec Ideal (M k m) .fp8e4m3)
    (ws b : FVec Ideal (M 1 m) .f32) (hb : (M n 1).Broadcasts (M n m)) (hr : (M 1 m).Broadcasts (M n m)) :
    FVec Ideal (M n m) .f32 :=
  addf (mulf (mulf (matmul (DotDims.plain n k m) none c w (constant (M n m) .f32 0x00000000#32)) (broadcastTo (M n m) s hb))
    (broadcastTo (M n m) ws hr)) (broadcastTo (M n m) b hr)

/-- A linear layer's entry. -/
theorem lin_apply (c : FVec Ideal (M n k) .fp8e4m3) (s : FVec Ideal (M n 1) .f32) (w : FVec Ideal (M k m) .fp8e4m3)
    (ws b : FVec Ideal (M 1 m) .f32) (hb : (M n 1).Broadcasts (M n m)) (hr : (M 1 m).Broadcasts (M n m)) (r : Fin n) (j : Fin m)
    (v : Fin k → EReal) (hc : ∀ x, c (ix2 r x) = Rows.qcode v x) (hs : s (ix2 r 0) = Rows.qscale v) :
    lin c s w ws b hb hr (ix2 r j)
      = Rows.lin v (fun x j => w (ix2 x j)) (fun j => ws (ix2 0 j)) (fun j => b (ix2 0 j)) j := by
  unfold Rows.lin
  dsimp only
  rw [← brow_apply ws hr r j, ← brow_apply b hr r j, ← hs, ← bcol_apply s hb r j]
  simp only [← hc]
  rw [← mm_apply c w r j]
  rfl

/-- Root-mean-square normalisation of the rows. -/
def rms (v : FVec Ideal (M n 1280) .f32) (g : FVec Ideal (M 1 1280) .f32) (h : (M n 1280).Reduces [1] (V n))
    (hc : (V n).ShapeCasts (M n 1)) (hb : (M n 1).Broadcasts (M n 1280)) (hr : (M 1 1280).Broadcasts (M n 1280)) :
    FVec Ideal (M n 1280) .f32 :=
  mulf (divf v (broadcastTo (M n 1280) (sqrt (addf (divf (shapeCast (M n 1)
      (multiReduction .add [1] (V n) (mulf v v) 0x00000000#32 h (.inl rfl) rfl) hc)
      (broadcast (M n 1) (Scalar.ofBits .f32 0x44A00000#32))) (broadcast (M n 1) (Scalar.ofBits .f32 0x358637BD#32)))) hb))
    (broadcastTo (M n 1280) g hr)

/-- A normalised entry. -/
theorem rms_apply (v : FVec Ideal (M n 1280) .f32) (g : FVec Ideal (M 1 1280) .f32) (h : (M n 1280).Reduces [1] (V n))
    (hc : (V n).ShapeCasts (M n 1)) (hb : (M n 1).Broadcasts (M n 1280)) (hr : (M 1 1280).Broadcasts (M n 1280))
    (r : Fin n) (j : Fin 1280) :
    rms v g h hc hb hr (ix2 r j) = Rows.rms (fun j => v (ix2 r j)) (fun j => g (ix2 0 j)) j := by
  unfold Rows.rms Rows.meansq
  dsimp only
  rw [← (col_apply _ hc r).trans (sumsq_apply v h (.inl rfl) rfl r), ← brow_apply g hr r j]
  unfold rms
  show Ideal.div (v (ix2 r j)) (broadcastTo (M n 1280) _ hb (ix2 r j)) * _ = _
  rw [bcol_apply]
  rfl

/-- The gated activation. -/
def act (g u : FVec Ideal (M n m) .f32) : FVec Ideal (M n m) .f32 :=
  mulf (mulf g (logistic g)) u

/-- Its entry. -/
theorem act_apply (g u : FVec Ideal (M n m) .f32) (y : (M n m).Idx) :
    act g u y = g y * Ideal.logistic (g y) * u y := rfl

end Cert.VRows
-- ==== Proof.KPieces.lean ====
module

public import proofs.«01_k».proof.Proof.Gen.KernelIdeal.Value
public import proofs.«01_k».proof.Proof.VRows

@[expose] public section

set_option maxRecDepth 16384

noncomputable section

namespace Cert.KPieces

open Cert.KernelIdeal Cert.KernelIdeal.Gen Idealize.ShloMosaic Idealize.ShloMosaic.TcCoe

/-! What one grid point of the kernel leaves in each output block and in its two scratch arrays: the stores, one piece per
chunk of columns, each with its payload written as one expression. -/

/-- A box of `w` columns from column `o` lies inside an `n × m` array. -/
theorem box {n m o w : ℕ} (h : o + w ≤ m) : ∀ a, (![0, o] : Fin 2 → ℕ) a + (![n, w] : Fin 2 → ℕ) a ≤ (VRows.M n m).size a :=
  Fin.forall_fin_two.2 ⟨Nat.le_of_eq (Nat.zero_add n), h⟩

/-- The `w` columns from column `o` on. -/
def cols {n m : ℕ} {e : EltTy} (x : (VRows.M n m).Idx → Elt Ideal e) (o w : ℕ) (h : o + w ≤ m) : (VRows.M n w).Idx → Elt Ideal e :=
  View.ld (S := VRows.M n m) x (Rect.unit ![0, o] ![n, w] (box h))

/-- An entry of them. -/
theorem cols_apply {n m : ℕ} {e : EltTy} (x : (VRows.M n m).Idx → Elt Ideal e) (o w : ℕ) (h : o + w ≤ m) (r : Fin n) (j : Fin w) :
    cols x o w h (ix2 r j) = x (ix2 r ⟨o + j, by omega⟩) := by
  refine congrArg x (funext fun a => Fin.ext ?_)
  refine Fin.cases ?_ (fun a => Fin.cases ?_ (fun a => a.elim0) a) a
  · show 0 + 1 * r.val = r.val
    omega
  · show o + 1 * j.val = o + j.val
    omega

/-- A load of a scratch after its stores, through a box of columns. -/
theorem readCov_ld {sig : RefSig} {κ : Kind} {sp : Space} {s : Shape} {e : EltTy} (v : View sig κ sp s e)
    (L : List (View.Piece (Elt Ideal) s e)) (r : Rect s) :
    v.readCov L r.toLoadRect = View.ld (View.canon L) r := View.readCov_eq_canon' ..

/-- One chunk of 256 columns of the residual after the output projection. -/
def h1P (o : ℕ) (h : o + 256 ≤ 1280) (x0 : Vec Ideal S256x1280 .bf16) (x1 : Vec Ideal S256x1280 .f32) (x2 : Vec Ideal S1280x1280 .fp8e4m3)
    (x3 x4 : Vec Ideal S1x1280 .f32) : View.Piece (Elt Ideal) S256x1280 .f32 :=
  ⟨Rect.unit ![0, o] ![256, 256] (box h), shapeCast S256x256 (extf .f32 (truncf .bf16 (addf
    (extf .f32 (cols (e := .bf16) x0 o 256 h) bitsLt_bf16_f32)
    (VRows.lin (k0_pay3 x1) (k0_pay2 x1) (cols (e := .fp8e4m3) x2 o 256 h)
      (shapeCast S1x256 (cols (e := .f32) x3 o 256 h) shapeCasts_S1x256_S1x256)
      (shapeCast S1x256 (cols (e := .f32) x4 o 256 h) shapeCasts_S1x256_S1x256)
      broadcasts_S256x1_S256x256 broadcasts_S1x256_S256x256)) bitsLt_bf16_f32) bitsLt_bf16_f32) shapeCasts_S256x256_S256x256⟩

/-- The stores into the residual's scratch, last first. -/
def h1L (x0 : Vec Ideal S256x1280 .bf16) (x1 : Vec Ideal S256x1280 .f32) (x2 : Vec Ideal S1280x1280 .fp8e4m3)
    (x3 x4 : Vec Ideal S1x1280 .f32) : List (View.Piece (Elt Ideal) S256x1280 .f32) :=
  [h1P 1024 (by decide) x0 x1 x2 x3 x4,
    h1P 768 (by decide) x0 x1 x2 x3 x4,
    h1P 512 (by decide) x0 x1 x2 x3 x4,
    h1P 256 (by decide) x0 x1 x2 x3 x4,
    h1P 0 (by decide) x0 x1 x2 x3 x4]

/-- One chunk of `w` columns of the gated activation. -/
def actP (o w : ℕ) (h : o + w ≤ 3420) (hb : S256x1.Broadcasts (VRows.M 256 w)) (hr : (VRows.M 1 w).Broadcasts (VRows.M 256 w))
    (hc : (VRows.M 1 w).ShapeCasts (VRows.M 1 w)) (hs : (VRows.M 256 w).ShapeCasts (VRows.M 256 w))
    (v : FVec Ideal S256x1280 .f32) (x5 : Vec Ideal S1x1280 .f32) (x6 : Vec Ideal S1280x3420 .fp8e4m3) (x7 x8 : Vec Ideal S1x3420 .f32)
    (x9 : Vec Ideal S1280x3420 .fp8e4m3) (x10 x11 : Vec Ideal S1x3420 .f32) : View.Piece (Elt Ideal) S256x3420 .f32 :=
  ⟨Rect.unit ![0, o] ![256, w] (box h), shapeCast (VRows.M 256 w) (VRows.act
    (VRows.lin (k0_pay18 (k0_pay16 v x5) k0_pay17) (k0_pay15 v x5) (cols (e := .fp8e4m3) x6 o w h)
      (shapeCast (VRows.M 1 w) (cols (e := .f32) x7 o w h) hc) (shapeCast (VRows.M 1 w) (cols (e := .f32) x8 o w h) hc) hb hr)
    (VRows.lin (k0_pay18 (k0_pay16 v x5) k0_pay17) (k0_pay15 v x5) (cols (e := .fp8e4m3) x9 o w h)
      (shapeCast (VRows.M 1 w) (cols (e := .f32) x10 o w h) hc) (shapeCast (VRows.M 1 w) (cols (e := .f32) x11 o w h) hc) hb hr)) hs⟩

/-- A chunk of 256 columns. -/
abbrev actP256 (o : ℕ) (h : o + 256 ≤ 3420) :=
  actP o 256 h broadcasts_S256x1_S256x256 broadcasts_S1x256_S256x256 shapeCasts_S1x256_S1x256 shapeCasts_S256x256_S256x256

/-- The stores into the activation's scratch, last first. -/
def actL (v : FVec Ideal S256x1280 .f32) (x5 : Vec Ideal S1x1280 .f32) (x6 : Vec Ideal S1280x3420 .fp8e4m3) (x7 x8 : Vec Ideal S1x3420 .f32)
    (x9 : Vec Ideal S1280x3420 .fp8e4m3) (x10 x11 : Vec Ideal S1x3420 .f32) : List (View.Piece (Elt Ideal) S256x3420 .f32) :=
  [actP 3328 92 (by decide) broadcasts_S256x1_S256x92 broadcasts_S1x92_S256x92 shapeCasts_S1x92_S1x92 shapeCasts_S256x92_S256x92
      v x5 x6 x7 x8 x9 x10 x11,
    actP256 3072 (by decide) v x5 x6 x7 x8 x9 x10 x11,
    actP256 2816 (by decide) v x5 x6 x7 x8 x9 x10 x11,
    actP256 2560 (by decide) v x5 x6 x7 x8 x9 x10 x11,
    actP256 2304 (by decide) v x5 x6 x7 x8 x9 x10 x11,
    actP256 2048 (by decide) v x5 x6 x7 x8 x9 x10 x11,
    actP256 1792 (by decide) v x5 x6 x7 x8 x9 x10 x11,
    actP256 1536 (by decide) v x5 x6 x7 x8 x9 x10 x11,
    actP256 1280 (by decide) v x5 x6 x7 x8 x9 x10 x11,
    actP256 1024 (by decide) v x5 x6 x7 x8 x9 x10 x11,
    actP256 768 (by decide) v x5 x6 x7 x8 x9 x10 x11,
    actP256 512 (by decide) v x5 x6 x7 x8 x9 x10 x11,
    actP256 256 (by decide) v x5 x6 x7 x8 x9 x10 x11,
    actP256 0 (by decide) v x5 x6 x7 x8 x9 x10 x11]

/-- One chunk of 256 columns of the output. -/
def outP (o : ℕ) (h : o + 256 ≤ 1280) (v : FVec Ideal S256x1280 .f32) (a : FVec Ideal S256x3420 .f32) (x12 : Vec Ideal S3420x1280 .fp8e4m3)
    (x13 x14 : Vec Ideal S1x1280 .f32) : View.Piece (Elt Ideal) S256x1280 .bf16 :=
  ⟨Rect.unit ![0, o] ![256, 256] (box h), truncf .bf16 (addf (cols (e := .f32) v o 256 h)
    (VRows.lin (k0_pay52 a) (k0_pay51 a) (cols (e := .fp8e4m3) x12 o 256 h)
      (shapeCast S1x256 (cols (e := .f32) x13 o 256 h) shapeCasts_S1x256_S1x256)
      (shapeCast S1x256 (cols (e := .f32) x14 o 256 h) shapeCasts_S1x256_S1x256)
      broadcasts_S256x1_S256x256 broadcasts_S1x256_S256x256)) bitsLt_bf16_f32⟩

/-- The stores into the output's block, last first. -/
def outL (v : FVec Ideal S256x1280 .f32) (a : FVec Ideal S256x3420 .f32) (x12 : Vec Ideal S3420x1280 .fp8e4m3)
    (x13 x14 : Vec Ideal S1x1280 .f32) : List (View.Piece (Elt Ideal) S256x1280 .bf16) :=
  [outP 1024 (by decide) v a x12 x13 x14,
    outP 768 (by decide) v a x12 x13 x14,
    outP 512 (by decide) v a x12 x13 x14,
    outP 256 (by decide) v a x12 x13 x14,
    outP 0 (by decide) v a x12 x13 x14]

section

variable (c : Dev nD) (t : Fin cfg0.N) (x0 : Vec Ideal S256x1280 .bf16) (x1 : Vec Ideal S256x1280 .f32) (x2 : Vec Ideal S1280x1280 .fp8e4m3) (x3 : Vec Ideal S1x1280 .f32) (x4 : Vec Ideal S1x1280 .f32) (x5 : Vec Ideal S1x1280 .f32) (x6 : Vec Ideal S1280x3420 .fp8e4m3) (x7 : Vec Ideal S1x3420 .f32) (x8 : Vec Ideal S1x3420 .f32) (x9 : Vec Ideal S1280x3420 .fp8e4m3) (x10 : Vec Ideal S1x3420 .f32) (x11 : Vec Ideal S1x3420 .f32) (x12 : Vec Ideal S3420x1280 .fp8e4m3) (x13 : Vec Ideal S1x1280 .f32) (x14 : Vec Ideal S1x1280 .f32)

/-- The residual's scratch after its stores. -/
abbrev h1v := View.canon (h1L x0 x1 x2 x3 x4)

/-- The activation's scratch after its stores. -/
abbrev actv := View.canon (actL (h1v x0 x1 x2 x3 x4) x5 x6 x7 x8 x9 x10 x11)

set_option maxHeartbeats 4000000 in
/-- The output block after a point. -/
theorem out15_eq : out0_A_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) x0 x1 x2 x3 x4 x5 x6 x7 x8 x9 x10 x11 x12 x13 x14
    = View.canon (outL (h1v x0 x1 x2 x3 x4) (actv x0 x1 x2 x3 x4 x5 x6 x7 x8 x9 x10 x11) x12 x13 x14) := by
  unfold out0_A_15
  rw [View.read_writes_junk_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, readCov_ld]
  simp only [View.ld_unit_zero (S := S256x1280) (off := ![0, 0]) (by decide), View.ld_unit_zero (S := S1x1280) (off := ![0, 0]) (by decide),
    View.ld_unit_zero (S := S256x3420) (off := ![0, 0]) (by decide)]
  rfl

/-- The attention output's codes after a point. -/
theorem out16_eq : out0_A_16 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) x0 x1 x2 x3 x4 x5 x6 x7 x8 x9 x10 x11 x12 x13 x14
    = k0_pay3 x1 := by
  unfold out0_A_16
  rw [View.read_writes_junk_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, readCov_ld]
  simp only [View.ld_unit_zero (S := S256x1280) (off := ![0, 0]) (by decide), View.ld_unit_zero (S := S1x1280) (off := ![0, 0]) (by decide),
    View.ld_unit_zero (S := S256x3420) (off := ![0, 0]) (by decide)]
  rw [View.canon_unit_zero (S := S256x1280) (off := ![0, 0]) (by decide)]

/-- The attention output's scales after a point. -/
theorem out17_eq : out0_A_17 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) x0 x1 x2 x3 x4 x5 x6 x7 x8 x9 x10 x11 x12 x13 x14
    = k0_pay4 x1 := by
  unfold out0_A_17
  rw [View.read_writes_junk_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, readCov_ld]
  simp only [View.ld_unit_zero (S := S256x1280) (off := ![0, 0]) (by decide), View.ld_unit_zero (S := S1x1280) (off := ![0, 0]) (by decide),
    View.ld_unit_zero (S := S256x3420) (off := ![0, 0]) (by decide)]
  rw [View.canon_unit_zero (S := S1x256) (off := ![0, 0]) (by decide)]

/-- The gate/up codes after a point. -/
theorem out18_eq : out0_A_18 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) x0 x1 x2 x3 x4 x5 x6 x7 x8 x9 x10 x11 x12 x13 x14
    = k0_pay18 (k0_pay16 (h1v x0 x1 x2 x3 x4) x5) k0_pay17 := by
  unfold out0_A_18
  rw [View.read_writes_junk_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, readCov_ld]
  simp only [View.ld_unit_zero (S := S256x1280) (off := ![0, 0]) (by decide), View.ld_unit_zero (S := S1x1280) (off := ![0, 0]) (by decide),
    View.ld_unit_zero (S := S256x3420) (off := ![0, 0]) (by decide)]
  rw [View.canon_unit_zero (S := S256x1280) (off := ![0, 0]) (by decide)]
  rfl

/-- The gate/up scales after a point. -/
theorem out19_eq : out0_A_19 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) x0 x1 x2 x3 x4 x5 x6 x7 x8 x9 x10 x11 x12 x13 x14
    = k0_pay19 (k0_pay15 (h1v x0 x1 x2 x3 x4) x5) := by
  unfold out0_A_19
  rw [View.read_writes_junk_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, readCov_ld]
  simp only [View.ld_unit_zero (S := S256x1280) (off := ![0, 0]) (by decide), View.ld_unit_zero (S := S1x1280) (off := ![0, 0]) (by decide),
    View.ld_unit_zero (S := S256x3420) (off := ![0, 0]) (by decide)]
  rw [View.canon_unit_zero (S := S1x256) (off := ![0, 0]) (by decide)]
  rfl

/-- The activation's codes after a point. -/
theorem out20_eq : out0_A_20 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) x0 x1 x2 x3 x4 x5 x6 x7 x8 x9 x10 x11 x12 x13 x14
    = k0_pay52 (actv x0 x1 x2 x3 x4 x5 x6 x7 x8 x9 x10 x11) := by
  unfold out0_A_20
  rw [View.read_writes_junk_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, readCov_ld]
  simp only [View.ld_unit_zero (S := S256x1280) (off := ![0, 0]) (by decide), View.ld_unit_zero (S := S1x1280) (off := ![0, 0]) (by decide),
    View.ld_unit_zero (S := S256x3420) (off := ![0, 0]) (by decide)]
  rw [View.canon_unit_zero (S := S256x3420) (off := ![0, 0]) (by decide)]
  rfl

/-- The activation's scales after a point. -/
theorem out21_eq : out0_A_21 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) x0 x1 x2 x3 x4 x5 x6 x7 x8 x9 x10 x11 x12 x13 x14
    = k0_pay53 (actv x0 x1 x2 x3 x4 x5 x6 x7 x8 x9 x10 x11) := by
  unfold out0_A_21
  rw [View.read_writes_junk_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, readCov_ld]
  simp only [View.ld_unit_zero (S := S256x1280) (off := ![0, 0]) (by decide), View.ld_unit_zero (S := S1x1280) (off := ![0, 0]) (by decide),
    View.ld_unit_zero (S := S256x3420) (off := ![0, 0]) (by decide)]
  rw [View.canon_unit_zero (S := S1x256) (off := ![0, 0]) (by decide)]
  rfl

end

end Cert.KPieces
-- ==== Proof.KRows.lean ====
module

public import proofs.«01_k».proof.Proof.KPieces

@[expose] public section

set_option maxRecDepth 16384

noncomputable section

namespace Cert.KRows

open Cert.KernelIdeal Cert.KernelIdeal.Gen Cert.KPieces Idealize.ShloMosaic Idealize.ShloMosaic.TcCoe

/-! What one grid point leaves in its blocks, at an index, as the row functions of Proof/Rows.lean. -/

/-- The index a chunk's entry has in the whole array. -/
theorem emb_cols {n m o w : ℕ} (h : o + w ≤ m) (r : Fin n) (j : Fin w) :
    (Rect.unit (s := VRows.M n m) ![0, o] ![n, w] (box h)).emb (ix2 r j) = ix2 r ⟨o + j, by omega⟩ := by
  refine funext fun a => Fin.ext ?_
  refine Fin.cases ?_ (fun a => Fin.cases ?_ (fun a => a.elim0) a) a
  · show 0 + 1 * r.val = r.val
    omega
  · show o + 1 * j.val = o + j.val
    omega

/-- A chunk that holds a function's entries at their places. -/
theorem pieces_cols {n m o w : ℕ} {e : EltTy} (h : o + w ≤ m) (f : (VRows.M n w).Idx → Elt Ideal e) (G : (VRows.M n m).Idx → Elt Ideal e)
    (hf : ∀ (r : Fin n) (j : Fin w), f (ix2 r j) = G (ix2 r ⟨o + j, by omega⟩)) (x : (VRows.M n w).Idx) :
    f x = G ((Rect.unit (s := VRows.M n m) ![0, o] ![n, w] (box h)).emb x) := by
  rw [eq_ix2 x]
  exact (hf _ _).trans (congrArg G (emb_cols h (x 0) (x 1)).symm)

/-- The attention output's scales. -/
theorem pay2_apply (x1 : Vec Ideal S256x1280 .f32) (r : Fin 256) :
    k0_pay2 x1 (ix2 r 0) = Rows.qscale fun j => x1 (ix2 r j) :=
  VRows.scale2_apply x1 reduces_S256x1280_S256 shapeCasts_S256_S256x1 r

/-- The attention output's codes. -/
theorem pay3_apply (x1 : Vec Ideal S256x1280 .f32) (r : Fin 256) (j : Fin 1280) :
    k0_pay3 x1 (ix2 r j) = Rows.qcode (fun j => x1 (ix2 r j)) j :=
  VRows.codes_apply x1 (k0_pay2 x1) broadcasts_S256x1_S256x1280 r (pay2_apply x1 r) j

/-- The attention output's scales, as a row. -/
theorem pay4_apply (x1 : Vec Ideal S256x1280 .f32) (r : Fin 256) :
    k0_pay4 x1 (ix2 0 r) = Rows.qscale fun j => x1 (ix2 r j) :=
  (VRows.turn_apply (l := 128) (k0_pay2 x1) shapeCasts_S256x1_S256x1 broadcasts_S256x1_S256x128 transposes_S256x128_p1_0_S128x256
    slices_S128x256_o0_0_S1x256 r).trans (pay2_apply x1 r)

/-- The normalised residual. -/
theorem pay14_apply (v : FVec Ideal S256x1280 .f32) (x5 : Vec Ideal S1x1280 .f32) (r : Fin 256) (j : Fin 1280) :
    k0_pay14 v x5 (ix2 r j) = Rows.rms (fun j => v (ix2 r j)) (fun j => x5 (ix2 0 j)) j := by
  have e := VRows.rms_apply v (shapeCast S1x1280 x5 shapeCasts_S1x1280_S1x1280) reduces_S256x1280_S256 shapeCasts_S256_S256x1
    broadcasts_S256x1_S256x1280 broadcasts_S1x1280_S256x1280 r j
  refine e.trans ?_
  rw [shapeCast_id]

/-- The gate/up scales. -/
theorem pay15_apply (v : FVec Ideal S256x1280 .f32) (x5 : Vec Ideal S1x1280 .f32) (r : Fin 256) :
    k0_pay15 v x5 (ix2 r 0) = Rows.qscale (Rows.rms (fun j => v (ix2 r j)) fun j => x5 (ix2 0 j)) :=
  (VRows.scale2_apply (k0_pay14 v x5) reduces_S256x1280_S256 shapeCasts_S256_S256x1 r).trans
    (congrArg Rows.qscale (funext fun j => pay14_apply v x5 r j))

/-- The gate/up codes. -/
theorem pay18_apply (v : FVec Ideal S256x1280 .f32) (x5 : Vec Ideal S1x1280 .f32) (r : Fin 256) (j : Fin 1280) :
    k0_pay18 (k0_pay16 v x5) k0_pay17 (ix2 r j) = Rows.qcode (Rows.rms (fun j => v (ix2 r j)) fun j => x5 (ix2 0 j)) j :=
  (VRows.codes_apply (k0_pay14 v x5) (k0_pay15 v x5) broadcasts_S256x1_S256x1280 r
    (VRows.scale2_apply (k0_pay14 v x5) reduces_S256x1280_S256 shapeCasts_S256_S256x1 r) j).trans
    (congrArg (Rows.qcode · j) (funext fun j => pay14_apply v x5 r j))

/-- The gate/up scales, as a row. -/
theorem pay19_apply (v : FVec Ideal S256x1280 .f32) (x5 : Vec Ideal S1x1280 .f32) (r : Fin 256) :
    k0_pay19 (k0_pay15 v x5) (ix2 0 r) = Rows.qscale (Rows.rms (fun j => v (ix2 r j)) fun j => x5 (ix2 0 j)) :=
  (VRows.turn_apply (l := 128) (k0_pay15 v x5) shapeCasts_S256x1_S256x1 broadcasts_S256x1_S256x128 transposes_S256x128_p1_0_S128x256
    slices_S128x256_o0_0_S1x256 r).trans (pay15_apply v x5 r)

/-- The activation's scales. -/
theorem pay51_apply (a : FVec Ideal S256x3420 .f32) (r : Fin 256) :
    k0_pay51 (F := Ideal) a (ix2 r 0) = Rows.qscale fun j => a (ix2 r j) :=
  VRows.scale2_apply a reduces_S256x3420_S256 shapeCasts_S256_S256x1 r

/-- The activation's codes. -/
theorem pay52_apply (a : FVec Ideal S256x3420 .f32) (r : Fin 256) (j : Fin 3420) :
    k0_pay52 (F := Ideal) a (ix2 r j) = Rows.qcode (fun j => a (ix2 r j)) j :=
  VRows.codes_apply a (k0_pay51 a) broadcasts_S256x1_S256x3420 r (pay51_apply a r) j

/-- The activation's scales, as a row. -/
theorem pay53_apply (a : FVec Ideal S256x3420 .f32) (r : Fin 256) :
    k0_pay53 (F := Ideal) a (ix2 0 r) = Rows.qscale fun j => a (ix2 r j) :=
  (VRows.turn_apply (l := 128) (k0_pay51 a) shapeCasts_S256x1_S256x1 broadcasts_S256x1_S256x128 transposes_S256x128_p1_0_S128x256
    slices_S128x256_o0_0_S1x256 r).trans (pay51_apply a r)

/-- A linear layer on a chunk of its columns. -/
theorem lin_cols {n k m : ℕ} (c : FVec Ideal (VRows.M n k) .fp8e4m3) (s : FVec Ideal (VRows.M n 1) .f32)
    (W : FVec Ideal (VRows.M k m) .fp8e4m3) (ws b : FVec Ideal (VRows.M 1 m) .f32) (o w : ℕ) (h : o + w ≤ m)
    (hc' : (VRows.M 1 w).ShapeCasts (VRows.M 1 w))
    (hb : (VRows.M n 1).Broadcasts (VRows.M n w)) (hr : (VRows.M 1 w).Broadcasts (VRows.M n w)) (r : Fin n) (j : Fin w)
    (v : Fin k → EReal) (hc : ∀ x, c (ix2 r x) = Rows.qcode v x) (hs : s (ix2 r 0) = Rows.qscale v) :
    VRows.lin c s (cols (e := .fp8e4m3) W o w h) (shapeCast (VRows.M 1 w) (cols (e := .f32) ws o w h) hc')
        (shapeCast (VRows.M 1 w) (cols (e := .f32) b o w h) hc') hb hr (ix2 r j)
      = Rows.lin v (fun x j => W (ix2 x j)) (fun j => ws (ix2 0 j)) (fun j => b (ix2 0 j)) ⟨o + j, by omega⟩ := by
  rw [shapeCast_id, shapeCast_id, VRows.lin_apply c s _ _ _ hb hr r j v hc hs]
  unfold Rows.lin
  simp only [cols_apply]

/-- The residual's chunk. -/
theorem h1P_apply (o : ℕ) (h : o + 256 ≤ 1280) (x0 : Vec Ideal S256x1280 .bf16) (x1 : Vec Ideal S256x1280 .f32)
    (x2 : Vec Ideal S1280x1280 .fp8e4m3) (x3 x4 : Vec Ideal S1x1280 .f32) (r : Fin 256) (j : Fin 256) :
    (h1P o h x0 x1 x2 x3 x4).2 (ix2 r j) = Rows.h1 (fun j => x0 (ix2 r j)) (fun j => x1 (ix2 r j)) (fun k j => x2 (ix2 k j))
      (fun j => x3 (ix2 0 j)) (fun j => x4 (ix2 0 j)) ⟨o + j, by omega⟩ := by
  unfold h1P
  dsimp only
  rw [shapeCast_id]
  exact congr (congrArg HAdd.hAdd (cols_apply (e := .bf16) x0 o 256 h r j)) (lin_cols (k0_pay3 x1) (k0_pay2 x1) x2 x3 x4 o 256 h _ _ _ r j _ (pay3_apply x1 r) (pay2_apply x1 r))

/-- The activation's chunk. -/
theorem actP_apply (o w : ℕ) (h : o + w ≤ 3420) (hb : S256x1.Broadcasts (VRows.M 256 w)) (hr : (VRows.M 1 w).Broadcasts (VRows.M 256 w))
    (hc : (VRows.M 1 w).ShapeCasts (VRows.M 1 w)) (hs : (VRows.M 256 w).ShapeCasts (VRows.M 256 w))
    (v : FVec Ideal S256x1280 .f32) (x5 : Vec Ideal S1x1280 .f32) (x6 : Vec Ideal S1280x3420 .fp8e4m3) (x7 x8 : Vec Ideal S1x3420 .f32)
    (x9 : Vec Ideal S1280x3420 .fp8e4m3) (x10 x11 : Vec Ideal S1x3420 .f32) (r : Fin 256) (j : Fin w) :
    (actP o w h hb hr hc hs v x5 x6 x7 x8 x9 x10 x11).2 (ix2 r j) = Rows.act (Rows.rms (fun j => v (ix2 r j)) fun j => x5 (ix2 0 j))
      (fun k j => x6 (ix2 k j)) (fun j => x7 (ix2 0 j)) (fun j => x8 (ix2 0 j))
      (fun k j => x9 (ix2 k j)) (fun j => x10 (ix2 0 j)) (fun j => x11 (ix2 0 j)) ⟨o + j, by omega⟩ := by
  unfold actP Rows.act
  dsimp only
  rw [shapeCast_id, VRows.act_apply,
    lin_cols (k0_pay18 (k0_pay16 v x5) k0_pay17) (k0_pay15 v x5) x6 x7 x8 o w h hc hb hr r j _ (pay18_apply v x5 r) (pay15_apply v x5 r),
    lin_cols (k0_pay18 (k0_pay16 v x5) k0_pay17) (k0_pay15 v x5) x9 x10 x11 o w h hc hb hr r j _ (pay18_apply v x5 r) (pay15_apply v x5 r)]

/-- The output's chunk. -/
theorem outP_apply (o : ℕ) (h : o + 256 ≤ 1280) (v : FVec Ideal S256x1280 .f32) (a : FVec Ideal S256x3420 .f32)
    (x12 : Vec Ideal S3420x1280 .fp8e4m3) (x13 x14 : Vec Ideal S1x1280 .f32) (r : Fin 256) (j : Fin 256) :
    (outP o h v a x12 x13 x14).2 (ix2 r j) = Rows.out (fun j => v (ix2 r j)) (fun j => a (ix2 r j)) (fun k j => x12 (ix2 k j))
      (fun j => x13 (ix2 0 j)) (fun j => x14 (ix2 0 j)) ⟨o + j, by omega⟩ := by
  unfold outP
  dsimp only
  exact congr (congrArg HAdd.hAdd (cols_apply (e := .f32) v o 256 h r j)) (lin_cols (k0_pay52 a) (k0_pay51 a) x12 x13 x14 o 256 h _ _ _ r j _ (pay52_apply a r) (pay51_apply a r))

/-- The residual's scratch, as a function on the block. -/
def h1G (x0 : Vec Ideal S256x1280 .bf16) (x1 : Vec Ideal S256x1280 .f32) (x2 : Vec Ideal S1280x1280 .fp8e4m3) (x3 x4 : Vec Ideal S1x1280 .f32) (y : S256x1280.Idx) : Elt Ideal .f32 :=
  Rows.h1 (fun j => x0 (ix2 (y 0) j)) (fun j => x1 (ix2 (y 0) j)) (fun k j => x2 (ix2 k j)) (fun j => x3 (ix2 0 j)) (fun j => x4 (ix2 0 j)) (y 1)

/-- The residual's scratch. -/
theorem h1v_apply (x0 : Vec Ideal S256x1280 .bf16) (x1 : Vec Ideal S256x1280 .f32) (x2 : Vec Ideal S1280x1280 .fp8e4m3) (x3 x4 : Vec Ideal S1x1280 .f32) (r : Fin 256) (j : Fin 1280) :
    View.canon (h1L x0 x1 x2 x3 x4) (ix2 r j)
      = Rows.h1 (fun j => x0 (ix2 r j)) (fun j => x1 (ix2 r j)) (fun k j => x2 (ix2 k j)) (fun j => x3 (ix2 0 j)) (fun j => x4 (ix2 0 j)) j := by
  refine View.canon_apply_of_pieces (h1G x0 x1 x2 x3 x4) _ ?_ _
    (View.cover_of_tiledL (h1L x0 x1 x2 x3 x4) (![256, 256] : Fin 2 → ℕ) (by sl_kernel_rfl) _)
  have one : ∀ o h, ∀ z : S256x256.Idx, (h1P o h x0 x1 x2 x3 x4).2 z = h1G x0 x1 x2 x3 x4 ((h1P o h x0 x1 x2 x3 x4).1.emb z) := by
    intro o h z
    rw [eq_ix2 z]
    exact (h1P_apply o h x0 x1 x2 x3 x4 (z 0) (z 1)).trans
      (congrArg (h1G x0 x1 x2 x3 x4) (emb_cols (n := 256) (m := 1280) h (z 0) (z 1)).symm)
  unfold h1L
  simp only [List.forall_mem_cons]
  exact ⟨one _ _, one _ _, one _ _, one _ _, one _ _, fun _ h => absurd h List.not_mem_nil⟩

/-- The activation's scratch, as a function on the block. -/
def actG (v : FVec Ideal S256x1280 .f32) (x5 : Vec Ideal S1x1280 .f32) (x6 : Vec Ideal S1280x3420 .fp8e4m3) (x7 x8 : Vec Ideal S1x3420 .f32)
    (x9 : Vec Ideal S1280x3420 .fp8e4m3) (x10 x11 : Vec Ideal S1x3420 .f32) (y : S256x3420.Idx) : Elt Ideal .f32 :=
  Rows.act (Rows.rms (fun j => v (ix2 (y 0) j)) fun j => x5 (ix2 0 j)) (fun k j => x6 (ix2 k j)) (fun j => x7 (ix2 0 j)) (fun j => x8 (ix2 0 j))
    (fun k j => x9 (ix2 k j)) (fun j => x10 (ix2 0 j)) (fun j => x11 (ix2 0 j)) (y 1)

/-- The columns of a chunk lie in its box. -/
theorem mem_cols {n m o w : ℕ} (h : o + w ≤ m) (r : Fin n) (j : Fin m) (hj : o ≤ j.val ∧ j.val < o + w) :
    ix2 r j ∈ (Rect.unit (s := VRows.M n m) ![0, o] ![n, w] (box h)).set := by
  obtain ⟨h1, h2⟩ := hj
  have e : ix2 r j = (Rect.unit (s := VRows.M n m) ![0, o] ![n, w] (box h)).emb (ix2 r ⟨j.val - o, by omega⟩) := by
    rw [emb_cols h r ⟨j.val - o, by omega⟩]
    exact congrArg (ix2 r) (Fin.ext (by show j.val = o + (j.val - o); omega))
  rw [e]
  exact LoadRect.idx_mem _ _

/-- A chunk's entries are the whole activation's, at their place. -/
theorem actP_emb (o w : ℕ) (h : o + w ≤ 3420) (hb : S256x1.Broadcasts (VRows.M 256 w)) (hr : (VRows.M 1 w).Broadcasts (VRows.M 256 w))
    (hc : (VRows.M 1 w).ShapeCasts (VRows.M 1 w)) (hs : (VRows.M 256 w).ShapeCasts (VRows.M 256 w))
    (v : FVec Ideal S256x1280 .f32) (x5 : Vec Ideal S1x1280 .f32) (x6 : Vec Ideal S1280x3420 .fp8e4m3) (x7 x8 : Vec Ideal S1x3420 .f32)
    (x9 : Vec Ideal S1280x3420 .fp8e4m3) (x10 x11 : Vec Ideal S1x3420 .f32)
    (z : (actP o w h hb hr hc hs v x5 x6 x7 x8 x9 x10 x11).1.shape.Idx) :
    (actP o w h hb hr hc hs v x5 x6 x7 x8 x9 x10 x11).2 z = actG v x5 x6 x7 x8 x9 x10 x11 ((actP o w h hb hr hc hs v x5 x6 x7 x8 x9 x10 x11).1.emb z) := by
  exact pieces_cols (n := 256) (m := 3420) (e := .f32) h (actP o w h hb hr hc hs v x5 x6 x7 x8 x9 x10 x11).2 (actG v x5 x6 x7 x8 x9 x10 x11)
    (actP_apply o w h hb hr hc hs v x5 x6 x7 x8 x9 x10 x11) z

/-- The columns of a chunk lie in its box. -/
theorem mem_actP (o w : ℕ) (h : o + w ≤ 3420) (hb : S256x1.Broadcasts (VRows.M 256 w)) (hr : (VRows.M 1 w).Broadcasts (VRows.M 256 w))
    (hc : (VRows.M 1 w).ShapeCasts (VRows.M 1 w)) (hs : (VRows.M 256 w).ShapeCasts (VRows.M 256 w))
    (v : FVec Ideal S256x1280 .f32) (x5 : Vec Ideal S1x1280 .f32) (x6 : Vec Ideal S1280x3420 .fp8e4m3) (x7 x8 : Vec Ideal S1x3420 .f32)
    (x9 : Vec Ideal S1280x3420 .fp8e4m3) (x10 x11 : Vec Ideal S1x3420 .f32) (r : Fin 256) (j : Fin 3420) (hj : o ≤ j.val ∧ j.val < o + w) :
    ix2 r j ∈ (actP o w h hb hr hc hs v x5 x6 x7 x8 x9 x10 x11).1.set :=
  mem_cols (n := 256) (m := 3420) h r j hj

/-- The activation's scratch. -/
theorem actv_apply (v : FVec Ideal S256x1280 .f32) (x5 : Vec Ideal S1x1280 .f32) (x6 : Vec Ideal S1280x3420 .fp8e4m3) (x7 x8 : Vec Ideal S1x3420 .f32)
    (x9 : Vec Ideal S1280x3420 .fp8e4m3) (x10 x11 : Vec Ideal S1x3420 .f32) (r : Fin 256) (j : Fin 3420) :
    View.canon (actL v x5 x6 x7 x8 x9 x10 x11) (ix2 r j)
      = Rows.act (Rows.rms (fun j => v (ix2 r j)) fun j => x5 (ix2 0 j)) (fun k j => x6 (ix2 k j)) (fun j => x7 (ix2 0 j)) (fun j => x8 (ix2 0 j))
    (fun k j => x9 (ix2 k j)) (fun j => x10 (ix2 0 j)) (fun j => x11 (ix2 0 j)) j := by
  refine View.canon_apply_of_pieces (actG v x5 x6 x7 x8 x9 x10 x11) _ ?_ _ ?_
  · unfold actL
    simp only [List.forall_mem_cons]
    exact ⟨actP_emb 3328 92 _ _ _ _ _ v x5 x6 x7 x8 x9 x10 x11,
      actP_emb 3072 256 _ _ _ _ _ v x5 x6 x7 x8 x9 x10 x11,
      actP_emb 2816 256 _ _ _ _ _ v x5 x6 x7 x8 x9 x10 x11,
      actP_emb 2560 256 _ _ _ _ _ v x5 x6 x7 x8 x9 x10 x11,
      actP_emb 2304 256 _ _ _ _ _ v x5 x6 x7 x8 x9 x10 x11,
      actP_emb 2048 256 _ _ _ _ _ v x5 x6 x7 x8 x9 x10 x11,
      actP_emb 1792 256 _ _ _ _ _ v x5 x6 x7 x8 x9 x10 x11,
      actP_emb 1536 256 _ _ _ _ _ v x5 x6 x7 x8 x9 x10 x11,
      actP_emb 1280 256 _ _ _ _ _ v x5 x6 x7 x8 x9 x10 x11,
      actP_emb 1024 256 _ _ _ _ _ v x5 x6 x7 x8 x9 x10 x11,
      actP_emb 768 256 _ _ _ _ _ v x5 x6 x7 x8 x9 x10 x11,
      actP_emb 512 256 _ _ _ _ _ v x5 x6 x7 x8 x9 x10 x11,
      actP_emb 256 256 _ _ _ _ _ v x5 x6 x7 x8 x9 x10 x11,
      actP_emb 0 256 _ _ _ _ _ v x5 x6 x7 x8 x9 x10 x11,
      fun _ h => absurd h List.not_mem_nil⟩
  · have := j.isLt
    have hj : (3328 ≤ j.val ∧ j.val < 3328 + 92) ∨ (3072 ≤ j.val ∧ j.val < 3072 + 256) ∨ (2816 ≤ j.val ∧ j.val < 2816 + 256) ∨ (2560 ≤ j.val ∧ j.val < 2560 + 256) ∨ (2304 ≤ j.val ∧ j.val < 2304 + 256) ∨ (2048 ≤ j.val ∧ j.val < 2048 + 256) ∨ (1792 ≤ j.val ∧ j.val < 1792 + 256) ∨ (1536 ≤ j.val ∧ j.val < 1536 + 256) ∨ (1280 ≤ j.val ∧ j.val < 1280 + 256) ∨ (1024 ≤ j.val ∧ j.val < 1024 + 256) ∨ (768 ≤ j.val ∧ j.val < 768 + 256) ∨ (512 ≤ j.val ∧ j.val < 512 + 256) ∨ (256 ≤ j.val ∧ j.val < 256 + 256) ∨ (0 ≤ j.val ∧ j.val < 0 + 256) := by omega
    unfold actL
    simp only [List.exists_mem_cons_iff]
    rcases hj with h | h | h | h | h | h | h | h | h | h | h | h | h | h
    · exact Or.inl (mem_actP 3328 92 _ _ _ _ _ v x5 x6 x7 x8 x9 x10 x11 r j h)
    · exact Or.inr (Or.inl (mem_actP 3072 256 _ _ _ _ _ v x5 x6 x7 x8 x9 x10 x11 r j h))
    · exact Or.inr (Or.inr (Or.inl (mem_actP 2816 256 _ _ _ _ _ v x5 x6 x7 x8 x9 x10 x11 r j h)))
    · exact Or.inr (Or.inr (Or.inr (Or.inl (mem_actP 2560 256 _ _ _ _ _ v x5 x6 x7 x8 x9 x10 x11 r j h))))
    · exact Or.inr (Or.inr (Or.inr (Or.inr (Or.inl (mem_actP 2304 256 _ _ _ _ _ v x5 x6 x7 x8 x9 x10 x11 r j h)))))
    · exact Or.inr (Or.inr (Or.inr (Or.inr (Or.inr (Or.inl (mem_actP 2048 256 _ _ _ _ _ v x5 x6 x7 x8 x9 x10 x11 r j h))))))
    · exact Or.inr (Or.inr (Or.inr (Or.inr (Or.inr (Or.inr (Or.inl (mem_actP 1792 256 _ _ _ _ _ v x5 x6 x7 x8 x9 x10 x11 r j h)))))))
    · exact Or.inr (Or.inr (Or.inr (Or.inr (Or.inr (Or.inr (Or.inr (Or.inl (mem_actP 1536 256 _ _ _ _ _ v x5 x6 x7 x8 x9 x10 x11 r j h))))))))
    · exact Or.inr (Or.inr (Or.inr (Or.inr (Or.inr (Or.inr (Or.inr (Or.inr (Or.inl (mem_actP 1280 256 _ _ _ _ _ v x5 x6 x7 x8 x9 x10 x11 r j h)))))))))
    · exact Or.inr (Or.inr (Or.inr (Or.inr (Or.inr (Or.inr (Or.inr (Or.inr (Or.inr (Or.inl (mem_actP 1024 256 _ _ _ _ _ v x5 x6 x7 x8 x9 x10 x11 r j h))))))))))
    · exact Or.inr (Or.inr (Or.inr (Or.inr (Or.inr (Or.inr (Or.inr (Or.inr (Or.inr (Or.inr (Or.inl (mem_actP 768 256 _ _ _ _ _ v x5 x6 x7 x8 x9 x10 x11 r j h)))))))))))
    · exact Or.inr (Or.inr (Or.inr (Or.inr (Or.inr (Or.inr (Or.inr (Or.inr (Or.inr (Or.inr (Or.inr (Or.inl (mem_actP 512 256 _ _ _ _ _ v x5 x6 x7 x8 x9 x10 x11 r j h))))))))))))
    · exact Or.inr (Or.inr (Or.inr (Or.inr (Or.inr (Or.inr (Or.inr (Or.inr (Or.inr (Or.inr (Or.inr (Or.inr (Or.inl (mem_actP 256 256 _ _ _ _ _ v x5 x6 x7 x8 x9 x10 x11 r j h)))))))))))))
    · exact Or.inr (Or.inr (Or.inr (Or.inr (Or.inr (Or.inr (Or.inr (Or.inr (Or.inr (Or.inr (Or.inr (Or.inr (Or.inr (Or.inl (mem_actP 0 256 _ _ _ _ _ v x5 x6 x7 x8 x9 x10 x11 r j h))))))))))))))

/-- The output's block, as a function on the block. -/
def outG (v : FVec Ideal S256x1280 .f32) (a : FVec Ideal S256x3420 .f32) (x12 : Vec Ideal S3420x1280 .fp8e4m3) (x13 x14 : Vec Ideal S1x1280 .f32) (y : S256x1280.Idx) : Elt Ideal .bf16 :=
  Rows.out (fun j => v (ix2 (y 0) j)) (fun j => a (ix2 (y 0) j)) (fun k j => x12 (ix2 k j)) (fun j => x13 (ix2 0 j)) (fun j => x14 (ix2 0 j)) (y 1)

/-- The output's block. -/
theorem outv_apply (v : FVec Ideal S256x1280 .f32) (a : FVec Ideal S256x3420 .f32) (x12 : Vec Ideal S3420x1280 .fp8e4m3) (x13 x14 : Vec Ideal S1x1280 .f32) (r : Fin 256) (j : Fin 1280) :
    View.canon (outL v a x12 x13 x14) (ix2 r j)
      = Rows.out (fun j => v (ix2 r j)) (fun j => a (ix2 r j)) (fun k j => x12 (ix2 k j)) (fun j => x13 (ix2 0 j)) (fun j => x14 (ix2 0 j)) j := by
  refine View.canon_apply_of_pieces (outG v a x12 x13 x14) _ ?_ _
    (View.cover_of_tiledL (outL v a x12 x13 x14) (![256, 256] : Fin 2 → ℕ) (by sl_kernel_rfl) _)
  have one : ∀ o h, ∀ z : S256x256.Idx, (outP o h v a x12 x13 x14).2 z = outG v a x12 x13 x14 ((outP o h v a x12 x13 x14).1.emb z) := by
    intro o h z
    rw [eq_ix2 z]
    exact (outP_apply o h v a x12 x13 x14 (z 0) (z 1)).trans
      (congrArg (outG v a x12 x13 x14) (emb_cols (n := 256) (m := 1280) h (z 0) (z 1)).symm)
  unfold outL
  simp only [List.forall_mem_cons]
  exact ⟨one _ _, one _ _, one _ _, one _ _, one _ _, fun _ h => absurd h List.not_mem_nil⟩

end Cert.KRows
-- ==== Proof.RefRows.lean ====
module

public import proofs.«01_k».proof.Proof.Gen.ReferenceIdeal.Value
public import proofs.«01_k».proof.Proof.VRows

@[expose] public section

set_option maxRecDepth 16384

noncomputable section

namespace Cert.RefRows

open Cert.ReferenceIdeal Cert.ReferenceIdeal.Gen Cert.ReferenceIdeal.Value Idealize.ShloMosaic

/-! The reference's results at an index, as the row functions of Proof/Rows.lean. -/

/-- The attention output's scales. -/
theorem pay3_apply (v0 : Vec Ideal S2048x1280 .f32) (r : Fin 2048) :
    k0_pay3 v0 (ix1 r) = Rows.qscale fun j => v0 (ix2 r j) :=
  VRows.scale1_apply v0 reduces_S2048x1280_S2048 r

/-- The attention output's codes. -/
theorem pay4_apply (v0 : Vec Ideal S2048x1280 .f32) (r : Fin 2048) (j : Fin 1280) :
    k0_pay4 v0 (ix2 r j) = Rows.qcode (fun j => v0 (ix2 r j)) j :=
  VRows.codes_apply v0 (shapeCast S2048x1 (k0_pay3 v0) shapeCasts_S2048_S2048x1) broadcasts_S2048x1_S2048x1280 r
    ((VRows.col_apply _ _ r).trans (pay3_apply v0 r)) j

/-- The residual after the output projection. -/
theorem pay5_apply (v0 : Vec Ideal S2048x1280 .f32) (w : Vec Ideal S1280x1280 .fp8e4m3) (s b : Vec Ideal S1280 .f32)
    (h : Vec Ideal S2048x1280 .bf16) (r : Fin 2048) (j : Fin 1280) :
    k0_pay5 v0 w s b h (ix2 r j) = Rows.h1 (fun j => h (ix2 r j)) (fun j => v0 (ix2 r j)) (fun k j => w (ix2 k j))
      (fun j => s (ix1 j)) (fun j => b (ix1 j)) j := by
  have e := VRows.lin_apply (k0_pay4 v0) (shapeCast S2048x1 (k0_pay3 v0) shapeCasts_S2048_S2048x1) w
    (shapeCast S1x1280 s shapeCasts_S1280_S1x1280) (shapeCast S1x1280 b shapeCasts_S1280_S1x1280)
    broadcasts_S2048x1_S2048x1280 broadcasts_S1x1280_S2048x1280 r j _ (pay4_apply v0 r)
    ((VRows.col_apply _ _ r).trans (pay3_apply v0 r))
  simp only [VRows.row_apply] at e
  exact congrArg (h (ix2 r j) + ·) e

/-- The normalised residual. -/
theorem pay7_apply (v0 : Vec Ideal S2048x1280 .f32) (w : Vec Ideal S1280x1280 .fp8e4m3) (s b : Vec Ideal S1280 .f32)
    (h : Vec Ideal S2048x1280 .bf16) (g : Vec Ideal S1280 .f32) (r : Fin 2048) (j : Fin 1280) :
    k0_pay7 (k0_pay5 v0 w s b h) g (k0_pay6 v0 w s b h) (Scalar.ofBits .f32 0x358637BD#32) (ix2 r j)
      = Rows.rms (fun j => k0_pay5 v0 w s b h (ix2 r j)) (fun j => g (ix1 j)) j := by
  have e := VRows.rms_apply (k0_pay5 v0 w s b h) (shapeCast S1x1280 g shapeCasts_S1280_S1x1280) reduces_S2048x1280_S2048
    shapeCasts_S2048_S2048x1 broadcasts_S2048x1_S2048x1280 broadcasts_S1x1280_S2048x1280 r j
  simp only [VRows.row_apply] at e
  exact e

/-- The gate/up scales. -/
theorem pay8_apply (v : FVec Ideal S2048x1280 .f32) (g : Vec Ideal S1280 .f32) (q : FVec Ideal S2048x1 .f32)
    (e : Ideal .f32) (r : Fin 2048) :
    k0_pay8 v g q e (ix1 r) = Rows.qscale fun j => k0_pay7 v g q e (ix2 r j) :=
  VRows.scale1_apply (k0_pay7 v g q e) reduces_S2048x1280_S2048 r

/-- The gate/up codes. -/
theorem pay9_apply (v : FVec Ideal S2048x1280 .f32) (g : Vec Ideal S1280 .f32) (q : FVec Ideal S2048x1 .f32)
    (e : Ideal .f32) (r : Fin 2048) (j : Fin 1280) :
    k0_pay9 v g q e (ix2 r j) = Rows.qcode (fun j => k0_pay7 v g q e (ix2 r j)) j :=
  VRows.codes_apply (k0_pay7 v g q e) (shapeCast S2048x1 (k0_pay8 v g q e) shapeCasts_S2048_S2048x1)
    broadcasts_S2048x1_S2048x1280 r ((VRows.col_apply _ _ r).trans (pay8_apply v g q e r)) j

/-- The gated activation. -/
theorem pay12_apply (v : FVec Ideal S2048x1280 .f32) (g : Vec Ideal S1280 .f32) (q : FVec Ideal S2048x1 .f32)
    (e : Ideal .f32) (w w' : Vec Ideal S1280x3420 .fp8e4m3) (s b s' b' : Vec Ideal S3420 .f32) (r : Fin 2048) (j : Fin 3420) :
    k0_pay12 (k0_pay10 v g q e w s b) s' b' (k0_pay11 v g q e w') (ix2 r j)
      = Rows.act (fun j => k0_pay7 v g q e (ix2 r j)) (fun x j => w (ix2 x j)) (fun j => s (ix1 j)) (fun j => b (ix1 j))
        (fun x j => w' (ix2 x j)) (fun j => s' (ix1 j)) (fun j => b' (ix1 j)) j := by
  have lin := fun (w : Vec Ideal S1280x3420 .fp8e4m3) (s b : Vec Ideal S3420 .f32) =>
    VRows.lin_apply (k0_pay9 v g q e) (shapeCast S2048x1 (k0_pay8 v g q e) shapeCasts_S2048_S2048x1) w
      (shapeCast S1x3420 s shapeCasts_S3420_S1x3420) (shapeCast S1x3420 b shapeCasts_S3420_S1x3420)
      broadcasts_S2048x1_S2048x3420 broadcasts_S1x3420_S2048x3420 r j _ (pay9_apply v g q e r)
      ((VRows.col_apply _ _ r).trans (pay8_apply v g q e r))
  simp only [VRows.row_apply] at lin
  unfold Rows.act
  rw [← lin w s b, ← lin w' s' b']
  refine Eq.trans (congrFun ?_ (ix2 r j)) (VRows.act_apply _ _ (ix2 r j))
  unfold k0_pay12 k0_pay10 k0_pay11 VRows.act VRows.lin
  rfl

/-- The activation's scales. -/
theorem pay13_apply (a : FVec Ideal S2048x3420 .f32) (s b : Vec Ideal S3420 .f32) (u : FVec Ideal S2048x3420 .f32)
    (r : Fin 2048) :
    k0_pay13 a s b u (ix1 r) = Rows.qscale fun j => k0_pay12 a s b u (ix2 r j) :=
  VRows.scale1_apply (k0_pay12 a s b u) reduces_S2048x3420_S2048 r

/-- The activation's codes. -/
theorem pay14_apply (a : FVec Ideal S2048x3420 .f32) (s b : Vec Ideal S3420 .f32) (u : FVec Ideal S2048x3420 .f32)
    (r : Fin 2048) (j : Fin 3420) :
    k0_pay14 a s b u (ix2 r j) = Rows.qcode (fun j => k0_pay12 a s b u (ix2 r j)) j :=
  VRows.codes_apply (k0_pay12 a s b u) (shapeCast S2048x1 (k0_pay13 a s b u) shapeCasts_S2048_S2048x1)
    broadcasts_S2048x1_S2048x3420 r ((VRows.col_apply _ _ r).trans (pay13_apply a s b u r)) j

/-- The block's output. -/
theorem pay15_apply (v : FVec Ideal S2048x1280 .f32) (a : FVec Ideal S2048x3420 .f32) (s b : Vec Ideal S3420 .f32)
    (u : FVec Ideal S2048x3420 .f32) (w : Vec Ideal S3420x1280 .fp8e4m3) (ws wb : Vec Ideal S1280 .f32)
    (r : Fin 2048) (j : Fin 1280) :
    k0_pay15 v a s b u w ws wb (ix2 r j) = Rows.out (fun j => v (ix2 r j)) (fun j => k0_pay12 a s b u (ix2 r j))
      (fun k j => w (ix2 k j)) (fun j => ws (ix1 j)) (fun j => wb (ix1 j)) j := by
  have e := VRows.lin_apply (k0_pay14 a s b u) (shapeCast S2048x1 (k0_pay13 a s b u) shapeCasts_S2048_S2048x1) w
    (shapeCast S1x1280 ws shapeCasts_S1280_S1x1280) (shapeCast S1x1280 wb shapeCasts_S1280_S1x1280)
    broadcasts_S2048x1_S2048x1280 broadcasts_S1x1280_S2048x1280 r j _ (pay14_apply a s b u r)
    ((VRows.col_apply _ _ r).trans (pay13_apply a s b u r))
  simp only [VRows.row_apply] at e
  exact congrArg (v (ix2 r j) + ·) e

section

variable (a0 : Vec Ideal S2048x1280 .bf16) (a1 : Vec Ideal S2048x1280 .f32) (a2 : Vec Ideal S1280x1280 .fp8e4m3) (a3 : Vec Ideal S1280 .f32) (a4 : Vec Ideal S1280 .f32) (a5 : Vec Ideal S1280 .f32) (a6 : Vec Ideal S1280x3420 .fp8e4m3) (a7 : Vec Ideal S3420 .f32) (a8 : Vec Ideal S3420 .f32) (a9 : Vec Ideal S1280x3420 .fp8e4m3) (a10 : Vec Ideal S3420 .f32) (a11 : Vec Ideal S3420 .f32) (a12 : Vec Ideal S3420x1280 .fp8e4m3) (a13 : Vec Ideal S1280 .f32) (a14 : Vec Ideal S1280 .f32)

/-- The residual, from the whole arguments. -/
theorem pay17_eq : k0_pay17 (F := Ideal) a0 a1 a2 a3 a4 a5 a6 a7 a8 a9 a10 a11 a12 a13 a14 = k0_pay5 a1 a2 a3 a4 a0 := by
  unfold k0_pay17
  rw [View.ld_unit_zero (S := S2048x1280) (by decide) _ a1, View.ld_unit_zero (S := S1280x1280) (by decide) _ a2,
    View.ld_unit_zero (S := S1280) (by decide) _ a3, View.ld_unit_zero (S := S1280) (by decide) _ a4,
    View.ld_unit_zero (S := S2048x1280) (by decide) _ a0]

/-- Its mean squares, from the whole arguments. -/
theorem pay18_eq : k0_pay18 (F := Ideal) a0 a1 a2 a3 a4 a5 a6 a7 a8 a9 a10 a11 a12 a13 a14 = k0_pay6 a1 a2 a3 a4 a0 := by
  unfold k0_pay18
  rw [View.ld_unit_zero (S := S2048x1280) (by decide) _ a1, View.ld_unit_zero (S := S1280x1280) (by decide) _ a2,
    View.ld_unit_zero (S := S1280) (by decide) _ a3, View.ld_unit_zero (S := S1280) (by decide) _ a4,
    View.ld_unit_zero (S := S2048x1280) (by decide) _ a0]

/-- The gate product, from the whole arguments. -/
theorem pay19_eq : k0_pay19 (F := Ideal) a0 a1 a2 a3 a4 a5 a6 a7 a8 a9 a10 a11 a12 a13 a14
    = k0_pay10 (k0_pay5 a1 a2 a3 a4 a0) a5 (k0_pay6 a1 a2 a3 a4 a0) (Scalar.ofBits .f32 0x358637BD#32) a6 a7 a8 := by
  unfold k0_pay19
  rw [pay17_eq, pay18_eq, View.ld_unit_zero (S := S1280) (by decide) _ a5, View.ld_unit_zero (S := S1280x3420) (by decide) _ a6,
    View.ld_unit_zero (S := S3420) (by decide) _ a7, View.ld_unit_zero (S := S3420) (by decide) _ a8]

/-- The up product, from the whole arguments. -/
theorem pay20_eq : k0_pay20 (F := Ideal) a0 a1 a2 a3 a4 a5 a6 a7 a8 a9 a10 a11 a12 a13 a14
    = k0_pay11 (k0_pay5 a1 a2 a3 a4 a0) a5 (k0_pay6 a1 a2 a3 a4 a0) (Scalar.ofBits .f32 0x358637BD#32) a9 := by
  unfold k0_pay20
  rw [pay17_eq, pay18_eq, View.ld_unit_zero (S := S1280) (by decide) _ a5, View.ld_unit_zero (S := S1280x3420) (by decide) _ a9]

variable (r : Fin 2048)

/-- The normalised residual's row. -/
theorem xn_row : (fun j => k0_pay7 (k0_pay5 a1 a2 a3 a4 a0) a5 (k0_pay6 a1 a2 a3 a4 a0) (Scalar.ofBits .f32 0x358637BD#32) (ix2 r j))
    = Rows.rms (Rows.h1 (fun j => a0 (ix2 r j)) (fun j => a1 (ix2 r j)) (fun x j => a2 (ix2 x j)) (fun j => a3 (ix1 j)) (fun j => a4 (ix1 j))) (fun j => a5 (ix1 j)) := by
  funext j
  rw [pay7_apply]
  simp only [pay5_apply]

/-- The activation's row. -/
theorem av_row : (fun j => k0_pay12 (k0_pay10 (k0_pay5 a1 a2 a3 a4 a0) a5 (k0_pay6 a1 a2 a3 a4 a0) (Scalar.ofBits .f32 0x358637BD#32) a6 a7 a8)
      a10 a11 (k0_pay11 (k0_pay5 a1 a2 a3 a4 a0) a5 (k0_pay6 a1 a2 a3 a4 a0) (Scalar.ofBits .f32 0x358637BD#32) a9) (ix2 r j))
    = Rows.act (Rows.rms (Rows.h1 (fun j => a0 (ix2 r j)) (fun j => a1 (ix2 r j)) (fun x j => a2 (ix2 x j)) (fun j => a3 (ix1 j)) (fun j => a4 (ix1 j))) (fun j => a5 (ix1 j))) (fun x j => a6 (ix2 x j)) (fun j => a7 (ix1 j)) (fun j => a8 (ix1 j)) (fun x j => a9 (ix2 x j)) (fun j => a10 (ix1 j)) (fun j => a11 (ix1 j)) := by
  funext j
  rw [pay12_apply, xn_row]

/-- The output. -/
theorem G15_apply (j : Fin 1280) : G15 (F := Ideal) a0 a1 a2 a3 a4 a5 a6 a7 a8 a9 a10 a11 a12 a13 a14 (ix2 r j)
    = Rows.out (Rows.h1 (fun j => a0 (ix2 r j)) (fun j => a1 (ix2 r j)) (fun x j => a2 (ix2 x j)) (fun j => a3 (ix1 j)) (fun j => a4 (ix1 j))) (Rows.act (Rows.rms (Rows.h1 (fun j => a0 (ix2 r j)) (fun j => a1 (ix2 r j)) (fun x j => a2 (ix2 x j)) (fun j => a3 (ix1 j)) (fun j => a4 (ix1 j))) (fun j => a5 (ix1 j))) (fun x j => a6 (ix2 x j)) (fun j => a7 (ix1 j)) (fun j => a8 (ix1 j)) (fun x j => a9 (ix2 x j)) (fun j => a10 (ix1 j)) (fun j => a11 (ix1 j)))
      (fun x j => a12 (ix2 x j)) (fun j => a13 (ix1 j)) (fun j => a14 (ix1 j)) j := by
  unfold G15
  rw [pay17_eq, pay19_eq, pay20_eq, pay15_apply, av_row]
  simp only [pay5_apply]

/-- The attention output's codes. -/
theorem G16_apply (j : Fin 1280) : G16 (F := Ideal) a0 a1 a2 a3 a4 a5 a6 a7 a8 a9 a10 a11 a12 a13 a14 (ix2 r j) = Rows.qcode (fun j => a1 (ix2 r j)) j := by
  unfold G16
  rw [pay4_apply]

/-- The attention output's scales. -/
theorem G17_apply : G17 (F := Ideal) a0 a1 a2 a3 a4 a5 a6 a7 a8 a9 a10 a11 a12 a13 a14 (ix2 0 r) = Rows.qscale (fun j => a1 (ix2 r j)) := by
  unfold G17 k0_pay16
  exact (VRows.row_apply _ _ r).trans (pay3_apply a1 r)

/-- The gate/up codes. -/
theorem G18_apply (j : Fin 1280) : G18 (F := Ideal) a0 a1 a2 a3 a4 a5 a6 a7 a8 a9 a10 a11 a12 a13 a14 (ix2 r j) = Rows.qcode (Rows.rms (Rows.h1 (fun j => a0 (ix2 r j)) (fun j => a1 (ix2 r j)) (fun x j => a2 (ix2 x j)) (fun j => a3 (ix1 j)) (fun j => a4 (ix1 j))) (fun j => a5 (ix1 j))) j := by
  unfold G18
  rw [pay17_eq, pay18_eq, pay9_apply, xn_row]

/-- The gate/up scales. -/
theorem G19_apply : G19 (F := Ideal) a0 a1 a2 a3 a4 a5 a6 a7 a8 a9 a10 a11 a12 a13 a14 (ix2 0 r) = Rows.qscale (Rows.rms (Rows.h1 (fun j => a0 (ix2 r j)) (fun j => a1 (ix2 r j)) (fun x j => a2 (ix2 x j)) (fun j => a3 (ix1 j)) (fun j => a4 (ix1 j))) (fun j => a5 (ix1 j))) := by
  unfold G19 k0_pay1
  refine (VRows.row_apply _ _ r).trans ?_
  rw [pay17_eq, pay18_eq, pay8_apply, xn_row]

/-- The activation's codes. -/
theorem G20_apply (j : Fin 3420) : G20 (F := Ideal) a0 a1 a2 a3 a4 a5 a6 a7 a8 a9 a10 a11 a12 a13 a14 (ix2 r j) = Rows.qcode (Rows.act (Rows.rms (Rows.h1 (fun j => a0 (ix2 r j)) (fun j => a1 (ix2 r j)) (fun x j => a2 (ix2 x j)) (fun j => a3 (ix1 j)) (fun j => a4 (ix1 j))) (fun j => a5 (ix1 j))) (fun x j => a6 (ix2 x j)) (fun j => a7 (ix1 j)) (fun j => a8 (ix1 j)) (fun x j => a9 (ix2 x j)) (fun j => a10 (ix1 j)) (fun j => a11 (ix1 j))) j := by
  unfold G20
  rw [pay19_eq, pay20_eq, pay14_apply, av_row]

/-- The activation's scales. -/
theorem G21_apply : G21 (F := Ideal) a0 a1 a2 a3 a4 a5 a6 a7 a8 a9 a10 a11 a12 a13 a14 (ix2 0 r) = Rows.qscale (Rows.act (Rows.rms (Rows.h1 (fun j => a0 (ix2 r j)) (fun j => a1 (ix2 r j)) (fun x j => a2 (ix2 x j)) (fun j => a3 (ix1 j)) (fun j => a4 (ix1 j))) (fun j => a5 (ix1 j))) (fun x j => a6 (ix2 x j)) (fun j => a7 (ix1 j)) (fun j => a8 (ix1 j)) (fun x j => a9 (ix2 x j)) (fun j => a10 (ix1 j)) (fun j => a11 (ix1 j))) := by
  unfold G21 k0_pay2
  refine (VRows.row_apply _ _ r).trans ?_
  rw [pay19_eq, pay20_eq, pay13_apply, av_row]

end

end Cert.RefRows
-- ==== Proof.KArrays.lean ====
module

public import proofs.«01_k».proof.Proof.KRows
public import proofs.«01_k».proof.Proof.RefRows
public import Idealize.ShloMosaic.Lib.Pipeline.ValueKit

@[expose] public section

set_option maxRecDepth 16384

noncomputable section

namespace Cert.KArrays

open Cert.KernelIdeal Cert.KernelIdeal.Gen Cert.KPieces Cert.KRows Idealize.ShloMosaic Idealize.ShloMosaic.TcCoe

/-! The kernel's result arrays after the run are the reference's functions of the argument arrays. -/

variable (m : (ℓ : Loc nD τ sig) → Buf (Elt Ideal) ℓ)

/-- Each window's block at a point: the point's row block, or the whole array. -/
theorem idx : ∀ t : Fin grid0.N, win0_0.index t = ![t.val, 0] ∧ win0_1.index t = ![t.val, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![t.val, 0] ∧ win0_16.index t = ![t.val, 0] ∧ win0_17.index t = ![0, t.val] ∧ win0_18.index t = ![t.val, 0] ∧ win0_19.index t = ![0, t.val] ∧ win0_20.index t = ![t.val, 0] ∧ win0_21.index t = ![0, t.val] := by
  decide +kernel

/-- The array row that row `r` of point `t`'s block is. -/
def row (t : Fin cfg0.N) (r : Fin 256) : Fin 2048 := ⟨t.val * 256 + r.val, by have : t.val < 8 := t.isLt; omega⟩

variable (c : Dev nD) (t : Fin cfg0.N)

/-- Row block `t` of argument 0. -/
theorem blk0 (r : Fin 256) (j : Fin 1280) : iblk m c 0 t (ix2 r j) = m ((c : Thread nD τ).loc main_arg0) (ix2 (row t r) j) := by
  unfold row
  blk_ext [iblk, V_main_arg0, idx t]

/-- Row block `t` of argument 1. -/
theorem blk1 (r : Fin 256) (j : Fin 1280) : iblk m c 1 t (ix2 r j) = m ((c : Thread nD τ).loc main_arg1) (ix2 (row t r) j) := by
  unfold row
  blk_ext [iblk, V_main_arg1, idx t]

/-- Argument 2, whole. -/
theorem blk2 (r : Fin 1280) (j : Fin 1280) : iblk m c 2 t (ix2 r j) = m ((c : Thread nD τ).loc main_arg2) (ix2 r j) := by
  blk_ext [iblk, V_main_arg2, idx t]

/-- Argument 6, whole. -/
theorem blk6 (r : Fin 1280) (j : Fin 3420) : iblk m c 6 t (ix2 r j) = m ((c : Thread nD τ).loc main_arg6) (ix2 r j) := by
  blk_ext [iblk, V_main_arg6, idx t]

/-- Argument 9, whole. -/
theorem blk9 (r : Fin 1280) (j : Fin 3420) : iblk m c 9 t (ix2 r j) = m ((c : Thread nD τ).loc main_arg9) (ix2 r j) := by
  blk_ext [iblk, V_main_arg9, idx t]

/-- Argument 12, whole. -/
theorem blk12 (r : Fin 3420) (j : Fin 1280) : iblk m c 12 t (ix2 r j) = m ((c : Thread nD τ).loc main_arg12) (ix2 r j) := by
  blk_ext [iblk, V_main_arg12, idx t]

/-- Argument 3, whole, as one row. -/
theorem blk3 (j : Fin 1280) : iblk m c 3 t (ix2 0 j) = m ((c : Thread nD τ).loc main_arg3) (ix1 j) := by
  blk_ext! [iblk, V, idx t]

/-- Argument 4, whole, as one row. -/
theorem blk4 (j : Fin 1280) : iblk m c 4 t (ix2 0 j) = m ((c : Thread nD τ).loc main_arg4) (ix1 j) := by
  blk_ext! [iblk, V, idx t]

/-- Argument 5, whole, as one row. -/
theorem blk5 (j : Fin 1280) : iblk m c 5 t (ix2 0 j) = m ((c : Thread nD τ).loc main_arg5) (ix1 j) := by
  blk_ext! [iblk, V, idx t]

/-- Argument 7, whole, as one row. -/
theorem blk7 (j : Fin 3420) : iblk m c 7 t (ix2 0 j) = m ((c : Thread nD τ).loc main_arg7) (ix1 j) := by
  blk_ext! [iblk, V, idx t]

/-- Argument 8, whole, as one row. -/
theorem blk8 (j : Fin 3420) : iblk m c 8 t (ix2 0 j) = m ((c : Thread nD τ).loc main_arg8) (ix1 j) := by
  blk_ext! [iblk, V, idx t]

/-- Argument 10, whole, as one row. -/
theorem blk10 (j : Fin 3420) : iblk m c 10 t (ix2 0 j) = m ((c : Thread nD τ).loc main_arg10) (ix1 j) := by
  blk_ext! [iblk, V, idx t]

/-- Argument 11, whole, as one row. -/
theorem blk11 (j : Fin 3420) : iblk m c 11 t (ix2 0 j) = m ((c : Thread nD τ).loc main_arg11) (ix1 j) := by
  blk_ext! [iblk, V, idx t]

/-- Argument 13, whole, as one row. -/
theorem blk13 (j : Fin 1280) : iblk m c 13 t (ix2 0 j) = m ((c : Thread nD τ).loc main_arg13) (ix1 j) := by
  blk_ext! [iblk, V, idx t]

/-- Argument 14, whole, as one row. -/
theorem blk14 (j : Fin 1280) : iblk m c 14 t (ix2 0 j) = m ((c : Thread nD τ).loc main_arg14) (ix1 j) := by
  blk_ext! [iblk, V, idx t]

/-- Where the block's entries lie in the array of window 15. -/
theorem emb15 (r : Fin 256) (j : Fin 1280) : ((cfg0.win 15).blk t).view.emb (ix2 r j) = ix2 (row t r) j := by
  unfold row
  blk_ext [idx t]

/-- The output array: what a point leaves in the block. -/
theorem after15 : (dats m 0 c).after 15 t = View.canon (outL (View.canon (h1L (iblk m c 0 t) (iblk m c 1 t) (iblk m c 2 t) (iblk m c 3 t) (iblk m c 4 t))) (View.canon (actL (View.canon (h1L (iblk m c 0 t) (iblk m c 1 t) (iblk m c 2 t) (iblk m c 3 t) (iblk m c 4 t))) (iblk m c 5 t) (iblk m c 6 t) (iblk m c 7 t) (iblk m c 8 t) (iblk m c 9 t) (iblk m c 10 t) (iblk m c 11 t))) (iblk m c 12 t) (iblk m c 13 t) (iblk m c 14 t)) := by
  rw [after0_15]
  unfold outsAt0
  dsimp only
  exact out15_eq c t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- The output array after the run. -/
theorem final15 : (dats m 0 c).arrAt 15 cfg0.N = Cert.ReferenceIdeal.Value.G15 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dats m 0 c).arrAt_eq_of_covers 15 _ (by decide +kernel) fun t hf y => ?_
  change S256x1280.Idx at y
  obtain ⟨r, j, rfl⟩ : ∃ r j, y = ix2 r j := ⟨_, _, eq_ix2 y⟩
  rw [emb15, RefRows.G15_apply]
  show (dats m 0 c).after 15 t (ix2 r j) = _
  rw [after15]
  refine (outv_apply _ _ _ _ _ r j).trans ?_
  simp only [actv_apply, h1v_apply, blk0, blk1, blk2, blk3, blk4, blk5, blk6, blk7, blk8, blk9, blk10, blk11, blk12, blk13, blk14]

/-- Where the block's entries lie in the array of window 16. -/
theorem emb16 (r : Fin 256) (j : Fin 1280) : ((cfg0.win 16).blk t).view.emb (ix2 r j) = ix2 (row t r) j := by
  unfold row
  blk_ext [idx t]

/-- The attention output's codes: what a point leaves in the block. -/
theorem after16 : (dats m 0 c).after 16 t = k0_pay3 (iblk m c 1 t) := by
  rw [after0_16]
  unfold outsAt0
  dsimp only
  exact out16_eq c t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- The attention output's codes after the run. -/
theorem final16 : (dats m 0 c).arrAt 16 cfg0.N = Cert.ReferenceIdeal.Value.G16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dats m 0 c).arrAt_eq_of_covers 16 _ (by decide +kernel) fun t hf y => ?_
  change S256x1280.Idx at y
  obtain ⟨r, j, rfl⟩ : ∃ r j, y = ix2 r j := ⟨_, _, eq_ix2 y⟩
  rw [emb16, RefRows.G16_apply]
  show (dats m 0 c).after 16 t (ix2 r j) = _
  rw [after16]
  refine (pay3_apply _ r j).trans ?_
  simp only [actv_apply, h1v_apply, blk0, blk1, blk2, blk3, blk4, blk5, blk6, blk7, blk8, blk9, blk10, blk11, blk12, blk13, blk14]

/-- Where the block's entries lie in the array of window 17. -/
theorem emb17 (r : Fin 256) : ((cfg0.win 17).blk t).view.emb (ix2 0 r) = ix2 0 (row t r) := by
  unfold row
  blk_ext [idx t]

/-- The attention output's scales: what a point leaves in the block. -/
theorem after17 : (dats m 0 c).after 17 t = k0_pay4 (iblk m c 1 t) := by
  rw [after0_17]
  unfold outsAt0
  dsimp only
  exact out17_eq c t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- The attention output's scales after the run. -/
theorem final17 : (dats m 0 c).arrAt 17 cfg0.N = Cert.ReferenceIdeal.Value.G17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dats m 0 c).arrAt_eq_of_covers 17 _ (by decide +kernel) fun t hf y => ?_
  change S1x256.Idx at y
  obtain ⟨i, r, rfl⟩ : ∃ i r, y = ix2 i r := ⟨_, _, eq_ix2 y⟩
  obtain rfl : i = 0 := Subsingleton.elim _ _
  rw [emb17, RefRows.G17_apply]
  show (dats m 0 c).after 17 t (ix2 0 r) = _
  rw [after17]
  refine (pay4_apply _ r).trans ?_
  simp only [actv_apply, h1v_apply, blk0, blk1, blk2, blk3, blk4, blk5, blk6, blk7, blk8, blk9, blk10, blk11, blk12, blk13, blk14]

/-- Where the block's entries lie in the array of window 18. -/
theorem emb18 (r : Fin 256) (j : Fin 1280) : ((cfg0.win 18).blk t).view.emb (ix2 r j) = ix2 (row t r) j := by
  unfold row
  blk_ext [idx t]

/-- The gate/up codes: what a point leaves in the block. -/
theorem after18 : (dats m 0 c).after 18 t = k0_pay18 (k0_pay16 (View.canon (h1L (iblk m c 0 t) (iblk m c 1 t) (iblk m c 2 t) (iblk m c 3 t) (iblk m c 4 t))) (iblk m c 5 t)) k0_pay17 := by
  rw [after0_18]
  unfold outsAt0
  dsimp only
  exact out18_eq c t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- The gate/up codes after the run. -/
theorem final18 : (dats m 0 c).arrAt 18 cfg0.N = Cert.ReferenceIdeal.Value.G18 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dats m 0 c).arrAt_eq_of_covers 18 _ (by decide +kernel) fun t hf y => ?_
  change S256x1280.Idx at y
  obtain ⟨r, j, rfl⟩ : ∃ r j, y = ix2 r j := ⟨_, _, eq_ix2 y⟩
  rw [emb18, RefRows.G18_apply]
  show (dats m 0 c).after 18 t (ix2 r j) = _
  rw [after18]
  refine (pay18_apply _ _ r j).trans ?_
  simp only [actv_apply, h1v_apply, blk0, blk1, blk2, blk3, blk4, blk5, blk6, blk7, blk8, blk9, blk10, blk11, blk12, blk13, blk14]

/-- Where the block's entries lie in the array of window 19. -/
theorem emb19 (r : Fin 256) : ((cfg0.win 19).blk t).view.emb (ix2 0 r) = ix2 0 (row t r) := by
  unfold row
  blk_ext [idx t]

/-- The gate/up scales: what a point leaves in the block. -/
theorem after19 : (dats m 0 c).after 19 t = k0_pay19 (k0_pay15 (View.canon (h1L (iblk m c 0 t) (iblk m c 1 t) (iblk m c 2 t) (iblk m c 3 t) (iblk m c 4 t))) (iblk m c 5 t)) := by
  rw [after0_19]
  unfold outsAt0
  dsimp only
  exact out19_eq c t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- The gate/up scales after the run. -/
theorem final19 : (dats m 0 c).arrAt 19 cfg0.N = Cert.ReferenceIdeal.Value.G19 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dats m 0 c).arrAt_eq_of_covers 19 _ (by decide +kernel) fun t hf y => ?_
  change S1x256.Idx at y
  obtain ⟨i, r, rfl⟩ : ∃ i r, y = ix2 i r := ⟨_, _, eq_ix2 y⟩
  obtain rfl : i = 0 := Subsingleton.elim _ _
  rw [emb19, RefRows.G19_apply]
  show (dats m 0 c).after 19 t (ix2 0 r) = _
  rw [after19]
  refine (pay19_apply _ _ r).trans ?_
  simp only [actv_apply, h1v_apply, blk0, blk1, blk2, blk3, blk4, blk5, blk6, blk7, blk8, blk9, blk10, blk11, blk12, blk13, blk14]

/-- Where the block's entries lie in the array of window 20. -/
theorem emb20 (r : Fin 256) (j : Fin 3420) : ((cfg0.win 20).blk t).view.emb (ix2 r j) = ix2 (row t r) j := by
  unfold row
  blk_ext [idx t]

/-- The activation's codes: what a point leaves in the block. -/
theorem after20 : (dats m 0 c).after 20 t = k0_pay52 (View.canon (actL (View.canon (h1L (iblk m c 0 t) (iblk m c 1 t) (iblk m c 2 t) (iblk m c 3 t) (iblk m c 4 t))) (iblk m c 5 t) (iblk m c 6 t) (iblk m c 7 t) (iblk m c 8 t) (iblk m c 9 t) (iblk m c 10 t) (iblk m c 11 t))) := by
  rw [after0_20]
  unfold outsAt0
  dsimp only
  exact out20_eq c t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- The activation's codes after the run. -/
theorem final20 : (dats m 0 c).arrAt 20 cfg0.N = Cert.ReferenceIdeal.Value.G20 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dats m 0 c).arrAt_eq_of_covers 20 _ (by decide +kernel) fun t hf y => ?_
  change S256x3420.Idx at y
  obtain ⟨r, j, rfl⟩ : ∃ r j, y = ix2 r j := ⟨_, _, eq_ix2 y⟩
  rw [emb20, RefRows.G20_apply]
  show (dats m 0 c).after 20 t (ix2 r j) = _
  rw [after20]
  refine (pay52_apply _ r j).trans ?_
  simp only [actv_apply, h1v_apply, blk0, blk1, blk2, blk3, blk4, blk5, blk6, blk7, blk8, blk9, blk10, blk11, blk12, blk13, blk14]

/-- Where the block's entries lie in the array of window 21. -/
theorem emb21 (r : Fin 256) : ((cfg0.win 21).blk t).view.emb (ix2 0 r) = ix2 0 (row t r) := by
  unfold row
  blk_ext [idx t]

/-- The activation's scales: what a point leaves in the block. -/
theorem after21 : (dats m 0 c).after 21 t = k0_pay53 (View.canon (actL (View.canon (h1L (iblk m c 0 t) (iblk m c 1 t) (iblk m c 2 t) (iblk m c 3 t) (iblk m c 4 t))) (iblk m c 5 t) (iblk m c 6 t) (iblk m c 7 t) (iblk m c 8 t) (iblk m c 9 t) (iblk m c 10 t) (iblk m c 11 t))) := by
  rw [after0_21]
  unfold outsAt0
  dsimp only
  exact out21_eq c t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- The activation's scales after the run. -/
theorem final21 : (dats m 0 c).arrAt 21 cfg0.N = Cert.ReferenceIdeal.Value.G21 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dats m 0 c).arrAt_eq_of_covers 21 _ (by decide +kernel) fun t hf y => ?_
  change S1x256.Idx at y
  obtain ⟨i, r, rfl⟩ : ∃ i r, y = ix2 i r := ⟨_, _, eq_ix2 y⟩
  obtain rfl : i = 0 := Subsingleton.elim _ _
  rw [emb21, RefRows.G21_apply]
  show (dats m 0 c).after 21 t (ix2 0 r) = _
  rw [after21]
  refine (pay53_apply _ r).trans ?_
  simp only [actv_apply, h1v_apply, blk0, blk1, blk2, blk3, blk4, blk5, blk6, blk7, blk8, blk9, blk10, blk11, blk12, blk13, blk14]

end Cert.KArrays
-- ==== Proof.QVRows.lean ====
module

public import proofs.«01_k».proof.Proof.VRows
public import Idealize.ShloMosaic.Lib.Pipeline.Value
public import Idealize.ShloMosaic.Lib.WordCmp

@[expose] public section

set_option maxRecDepth 16384

noncomputable section

/-! The row functions of the query, key and value projections, and the vector operations both programs make them of,
read at an index, for any number of rows. -/

namespace Cert.Rows

open Idealize.ShloMosaic

/-- Rotary position embedding of one head's eighty channels: the channels by the cosines, plus the halves swapped, the
upper one negated, by the sines. -/
def rope (t c s : Fin 80 → EReal) (d : Fin 80) : EReal :=
  t d * c d + (if h : d.val < 40 then Scalar.ofBits (F := Ideal) .f32 0x00000000#32 - t ⟨40 + d.val, by omega⟩
    else t ⟨d.val - 40, by omega⟩) * s d

/-- The mark of channel `k`: one value at the row's group, another elsewhere. -/
def mark (a b : EReal) (g : BitVec 32) (k : Fin 48) : EReal := if BitVec.ofNat 32 k.val = g then a else b

/-- One head's channels: eighty rotated ones, then the forty-eight marks. -/
def head (t c s : Fin 80 → EReal) (mk : Fin 48 → EReal) (d : Fin 128) : EReal :=
  if h : d.val < 80 then rope t c s ⟨d.val, h⟩ else mk ⟨d.val - 80, by omega⟩

/-- The queries' channels of a row of the projection. -/
def qrow (v : Fin 3840 → EReal) (c s : Fin 80 → EReal) (g : BitVec 32) (j : Fin 2048) : EReal :=
  head (fun e => v ⟨80 * (j.val / 128) + e.val, by omega⟩) c s
    (mark (Scalar.ofBits (F := Ideal) .f32 0x00000000#32) (Scalar.ofBits (F := Ideal) .f32 0xF1800000#32) g)
    ⟨j.val % 128, by omega⟩

/-- The keys' channels. -/
def krow (v : Fin 3840 → EReal) (c s : Fin 80 → EReal) (g : BitVec 32) (j : Fin 2048) : EReal :=
  head (fun e => v ⟨1280 + 80 * (j.val / 128) + e.val, by omega⟩) c s
    (mark (Scalar.ofBits (F := Ideal) .f32 0x3F800000#32) (Scalar.ofBits (F := Ideal) .f32 0x00000000#32) g)
    ⟨j.val % 128, by omega⟩

/-- The values' channels. -/
def vrow (v : Fin 3840 → EReal) (j : Fin 1280) : EReal := v ⟨2560 + j.val, by omega⟩

end Cert.Rows

namespace Cert.VRows

open Idealize.ShloMosaic

variable {n k m : ℕ}

/-- Two matrices one below the other. -/
theorem cat0_apply {α : Type} {a b k n : ℕ} (x : (M a n).Idx → α) (y : (M b n).Idx → α)
    (h : Shape.Concatenates [M a n, M b n] (M k n) 0) (hk : k = a + b) (d : Fin k) (r : Fin n) :
    concatenate (M k n) 0 [⟨M a n, x⟩, ⟨M b n, y⟩] h (ix2 d r)
      = if h : d.val < a then x (ix2 ⟨d.val, h⟩ r) else y (ix2 ⟨d.val - a, by omega⟩ r) := by
  split
  · rename_i hd
    refine concatenate_pair_apply_left (s₁ := M a n) (s₂ := M b n) 0 x y h (ix2 d r) rfl (ix2 ⟨d.val, hd⟩ r) ?_
    exact Fin.forall_fin_two.2 ⟨rfl, rfl⟩
  · rename_i hd
    refine concatenate_pair_apply_right (s₁ := M a n) (s₂ := M b n) 0 x y h (ix2 d r) rfl rfl
      (ix2 ⟨d.val - a, by omega⟩ r) ?_ ?_
    · exact Fin.forall_fin_two.2 ⟨fun e => absurd rfl e, fun _ => rfl⟩
    · show d.val - a + a = d.val
      omega

/-- A matrix beside itself. -/
theorem two_apply {α : Type} (x : (M m 128).Idx → α) (h : Shape.Concatenates [M m 128, M m 128] (M m 256) 1)
    (j : Fin m) (r : Fin 256) :
    concatenate (M m 256) 1 [⟨M m 128, x⟩, ⟨M m 128, x⟩] h (ix2 j r) = x (ix2 j ⟨r.val % 128, by omega⟩) := by
  by_cases hr : r.val < 128
  · refine concatenate_pair_apply_left (s₁ := M m 128) (s₂ := M m 128) 1 x x h (ix2 j r) rfl (ix2 j ⟨r.val % 128, by omega⟩) ?_
    exact Fin.forall_fin_two.2 ⟨rfl, by show r.val % 128 = r.val; omega⟩
  · refine concatenate_pair_apply_right (s₁ := M m 128) (s₂ := M m 128) 1 x x h (ix2 j r) rfl rfl
      (ix2 j ⟨r.val % 128, by omega⟩) ?_ ?_
    · exact Fin.forall_fin_two.2 ⟨fun _ => rfl, fun e => absurd rfl e⟩
    · show r.val % 128 + 128 = r.val
      have := r.isLt
      omega

/-- Some rows of a matrix. -/
theorem slice0_apply {α : Type} {a k n o : ℕ} (x : (M a n).Idx → α) (h : (M a n).Slices ![o, 0] (M k n)) (ho : o + k ≤ a)
    (d : Fin k) (r : Fin n) : extractStridedSlice (M k n) ![o, 0] x h (ix2 d r) = x (ix2 ⟨o + d.val, by omega⟩ r) := by
  refine extractStridedSlice_apply (s := M a n) (t := M k n) ![o, 0] x h (ix2 d r) (ix2 ⟨o + d.val, by omega⟩ r) ?_
  exact Fin.forall_fin_two.2 ⟨rfl, by show r.val = 0 + r.val; omega⟩

/-- A transposed matrix. -/
theorem tr_apply {α : Type} {a b : ℕ} (x : (M a b).Idx → α) (h : (M a b).Transposes [1, 0] (M b a)) (i : Fin a) (j : Fin b) :
    transpose (M b a) [1, 0] x h (ix2 j i) = x (ix2 i j) := by
  refine transpose_apply (s := M a b) (t := M b a) [1, 0] x h (ix2 j i) (ix2 i j) ?_
  exact Fin.forall_fin_two.2 ⟨rfl, rfl⟩

/-- A row repeated down the columns, of any kind of element. -/
theorem brow'_apply {α : Type} (a : (M 1 m).Idx → α) (h : (M 1 m).Broadcasts (M n m)) (r : Fin n) (j : Fin m) :
    broadcastTo (M n m) a h (ix2 r j) = a (ix2 0 j) := by
  refine congrArg a (funext fun x => Fin.ext ?_)
  refine Fin.cases ?_ (fun x => Fin.cases ?_ (fun x => x.elim0) x) x
  · pointwise
  · by_cases e : m = 1
    · refine (congrArg Fin.val (dif_pos e)).trans ?_
      have := j.isLt
      show 0 = j.val
      omega
    · exact congrArg Fin.val (dif_neg e)

/-- A choice between two constants where two words are equal. -/
theorem pick_apply (x y : BitVec 32) (a b : EReal) : Scalar.select (IntOp.cmpi .eq x y) a b = if x = y then a else b := by
  rw [WordCmp.cmpi_eq_eq]
  by_cases h : x = y
  · rw [if_pos h, decide_eq_true h]
    rfl
  · rw [if_neg h, decide_eq_false h]
    rfl

/-- The marks, channels first. -/
theorem markT_apply (g : IVec (M 1 n) 32) (a b : BitVec 32) (h0 : (M 1 n).ShapeCasts (M 1 n)) (hi : (M 48 n).Iotas .tc 32 [0])
    (hb : (M 1 n).Broadcasts (M 48 n)) (ht : FTy.bf16.bits < FTy.f32.bits) (k : Fin 48) (r : Fin n) :
    truncf (F := Ideal) .bf16 (select (cmpi .eq (iota .tc (M 48 n) 32 [0] hi) (broadcastTo (M 48 n) (shapeCast (M 1 n) g h0) hb))
      (broadcast (M 48 n) (Scalar.ofBits .f32 a)) (broadcast (M 48 n) (Scalar.ofBits .f32 b))) ht (ix2 k r)
      = Rows.mark (Scalar.ofBits (F := Ideal) .f32 a) (Scalar.ofBits (F := Ideal) .f32 b) (g (ix2 0 r)) k := by
  rw [shapeCast_id]
  refine Eq.trans ?_ (pick_apply (BitVec.ofNat 32 k.val) (g (ix2 0 r)) _ _)
  rw [← brow'_apply g hb k r]
  pointwise

/-- Rotary position embedding of one head, channels first. -/
def ropeT (t c s : FVec Ideal (M 80 n) .f32) (h1 : (M 80 n).Slices ![40, 0] (M 40 n)) (h2 : (M 80 n).Slices ![0, 0] (M 40 n))
    (hc : Shape.Concatenates [M 40 n, M 40 n] (M 80 n) 0) : FVec Ideal (M 80 n) .f32 :=
  addf (mulf t c) (mulf (concatenate (M 80 n) 0
    [⟨M 40 n, subf (broadcast (M 40 n) (Scalar.ofBits .f32 0x00000000#32)) (extractStridedSlice (M 40 n) ![40, 0] t h1)⟩,
      ⟨M 40 n, extractStridedSlice (M 40 n) ![0, 0] t h2⟩] hc) s)

/-- Its entry. -/
theorem ropeT_apply (t c s : FVec Ideal (M 80 n) .f32) (h1 : (M 80 n).Slices ![40, 0] (M 40 n))
    (h2 : (M 80 n).Slices ![0, 0] (M 40 n)) (hc : Shape.Concatenates [M 40 n, M 40 n] (M 80 n) 0) (d : Fin 80) (r : Fin n) :
    ropeT t c s h1 h2 hc (ix2 d r)
      = Rows.rope (fun d => t (ix2 d r)) (fun d => c (ix2 d r)) (fun d => s (ix2 d r)) d := by
  unfold ropeT Rows.rope
  refine congrArg (t (ix2 d r) * c (ix2 d r) + · * s (ix2 d r)) ?_
  refine (cat0_apply _ _ hc rfl d r).trans ?_
  split
  · rename_i hd
    exact congrArg (Scalar.ofBits (F := Ideal) .f32 0x00000000#32 - ·) (slice0_apply t h1 (by omega) ⟨d.val, hd⟩ r)
  · refine (slice0_apply t h2 (by omega) _ r).trans (congrArg (fun q => t (ix2 q r)) (Fin.ext ?_))
    show 0 + (d.val - 40) = d.val - 40
    omega

/-- One head with its marks, channels first. -/
def headT (t c s : FVec Ideal (M 80 n) .f32) (mk : FVec Ideal (M 48 n) .bf16) (h1 : (M 80 n).Slices ![40, 0] (M 40 n))
    (h2 : (M 80 n).Slices ![0, 0] (M 40 n)) (hc : Shape.Concatenates [M 40 n, M 40 n] (M 80 n) 0)
    (hm : Shape.Concatenates [M 80 n, M 48 n] (M 128 n) 0) : FVec Ideal (M 128 n) .bf16 :=
  concatenate (M 128 n) 0 [⟨M 80 n, truncf .bf16 (ropeT t c s h1 h2 hc) (by decide)⟩, ⟨M 48 n, mk⟩] hm

/-- Its entry. -/
theorem headT_apply (t c s : FVec Ideal (M 80 n) .f32) (mk : FVec Ideal (M 48 n) .bf16) (h1 : (M 80 n).Slices ![40, 0] (M 40 n))
    (h2 : (M 80 n).Slices ![0, 0] (M 40 n)) (hc : Shape.Concatenates [M 40 n, M 40 n] (M 80 n) 0)
    (hm : Shape.Concatenates [M 80 n, M 48 n] (M 128 n) 0) (d : Fin 128) (r : Fin n) :
    headT t c s mk h1 h2 hc hm (ix2 d r) = Rows.head (fun d => t (ix2 d r)) (fun d => c (ix2 d r)) (fun d => s (ix2 d r))
      (fun k => mk (ix2 k r)) d := by
  unfold headT Rows.head
  refine (cat0_apply _ _ hm rfl d r).trans ?_
  split
  · exact ropeT_apply t c s h1 h2 hc _ r
  · rfl

/-- A product with the second operand transposed, into zero, at an index. -/
theorem nt_apply {φ ψ : FTy} (a : FVec Ideal (M m k) φ) (b : FVec Ideal (M n k) ψ) (j : Fin m) (r : Fin n) :
    matmul (F := Ideal) (DotDims.transposedRhs m k n) none a b (constant (M m n) .f32 0x00000000#32) (ix2 j r)
      = ∑ x : Fin k, a (ix2 j x) * b (ix2 r x) := by
  refine (Ideal.matmul_transposedRhs_apply none a b (constant (M m n) .f32 0x00000000#32) j r).trans ?_
  pointwise
  rfl

/-- A linear layer on codes, channels first: the weight's columns as rows, its scales and biases repeated along them. -/
def linT (w : FVec Ideal (M m k) .fp8e4m3) (c : FVec Ideal (M 256 k) .fp8e4m3) (s : FVec Ideal (M 1 256) .f32)
    (ws b : FVec Ideal (M m 128) .f32) (hr : (M 1 256).Broadcasts (M m 256))
    (h2 : Shape.Concatenates [M m 128, M m 128] (M m 256) 1) : FVec Ideal (M m 256) .f32 :=
  addf (mulf (mulf (matmul (DotDims.transposedRhs m k 256) none w c (constant (M m 256) .f32 0x00000000#32))
    (broadcastTo (M m 256) s hr)) (concatenate (M m 256) 1 [⟨M m 128, ws⟩, ⟨M m 128, ws⟩] h2))
    (concatenate (M m 256) 1 [⟨M m 128, b⟩, ⟨M m 128, b⟩] h2)

/-- Its entry, where the operands hold the quantised row, the weight's column and its scale and bias. -/
theorem linT_apply {l : ℕ} (w : FVec Ideal (M m k) .fp8e4m3) (c : FVec Ideal (M 256 k) .fp8e4m3) (s : FVec Ideal (M 1 256) .f32)
    (ws b : FVec Ideal (M m 128) .f32) (hr : (M 1 256).Broadcasts (M m 256))
    (h2 : Shape.Concatenates [M m 128, M m 128] (M m 256) 1) (j : Fin m) (r : Fin 256)
    (v : Fin k → EReal) (W : Fin k → Fin l → EReal) (S B : Fin l → EReal) (J : Fin l)
    (hc : ∀ x, c (ix2 r x) = Rows.qcode v x) (hs : s (ix2 0 r) = Rows.qscale v)
    (hw : ∀ x, w (ix2 j x) = W x J) (hws : ∀ y, ws (ix2 j y) = S J) (hb : ∀ y, b (ix2 j y) = B J) :
    linT w c s ws b hr h2 (ix2 j r) = Rows.lin v W S B J := by
  unfold Rows.lin
  rw [← hs, ← brow_apply s hr j r, ← hws ⟨r.val % 128, by omega⟩, ← hb ⟨r.val % 128, by omega⟩, ← two_apply ws h2 j r,
    ← two_apply b h2 j r]
  simp only [← hc, ← hw, mul_comm (c _)]
  rw [← nt_apply w c j r]
  rfl

end Cert.VRows
-- ==== Proof.QPieces.lean ====
module

public import proofs.«01_k».proof.Proof.Gen.QkvKernelIdeal.Value
public import proofs.«01_k».proof.Proof.KRows
public import proofs.«01_k».proof.Proof.QVRows

@[expose] public section

set_option maxRecDepth 16384

noncomputable section

namespace Cert.QPieces

open Cert.QkvKernelIdeal Cert.QkvKernelIdeal.Gen Idealize.ShloMosaic Idealize.ShloMosaic.TcCoe
open Cert.KPieces (box cols readCov_ld)

/-! What one grid point of the projection's kernel leaves in each output block and in its three scratch arrays: the
stores, one piece per chunk or head, each with its payload written as one expression. -/

/-- A list's entries from a function's values, last first. -/
def down {α : Type} : (n : ℕ) → (Fin n → α) → List α
  | 0, _ => []
  | n + 1, f => f (Fin.last n) :: down n fun i => f i.castSucc

/-- What holds of every value holds of every entry. -/
theorem forall_down {α : Type} {p : α → Prop} : (n : ℕ) → (f : Fin n → α) → (∀ i, p (f i)) → ∀ x ∈ down n f, p x
  | 0, _, _ => fun _ h => absurd h List.not_mem_nil
  | n + 1, f, hp => List.forall_mem_cons.2 ⟨hp _, forall_down n _ fun i => hp i.castSucc⟩

/-- A box of `w` rows from row `o` lies inside an `n × m` array. -/
theorem rbox {n m o w : ℕ} (h : o + w ≤ n) : ∀ a, (![o, 0] : Fin 2 → ℕ) a + (![w, m] : Fin 2 → ℕ) a ≤ (VRows.M n m).size a :=
  Fin.forall_fin_two.2 ⟨h, Nat.le_of_eq (Nat.zero_add m)⟩

/-- The `w` rows from row `o` on. -/
def rows {n m : ℕ} {e : EltTy} (x : (VRows.M n m).Idx → Elt Ideal e) (o w : ℕ) (h : o + w ≤ n) : (VRows.M w m).Idx → Elt Ideal e :=
  View.ld (S := VRows.M n m) x (Rect.unit ![o, 0] ![w, m] (rbox h))

/-- An entry of them. -/
theorem rows_apply {n m : ℕ} {e : EltTy} (x : (VRows.M n m).Idx → Elt Ideal e) (o w : ℕ) (h : o + w ≤ n) (r : Fin w) (j : Fin m) :
    rows x o w h (ix2 r j) = x (ix2 ⟨o + r, by omega⟩ j) := by
  refine congrArg x (funext fun a => Fin.ext ?_)
  refine Fin.cases ?_ (fun a => Fin.cases ?_ (fun a => a.elim0) a) a
  · show o + 1 * r.val = o + r.val
    omega
  · show 0 + 1 * j.val = j.val
    omega

/-- One chunk of the transposed weight: 256 of the weight's columns, as rows. -/
def wP (x2 : Vec Ideal S1280x3840 .fp8e4m3) (i : Fin 15) : View.Piece (Elt Ideal) S3840x1280 .fp8e4m3 :=
  ⟨Rect.unit ![256 * i.val, 0] ![256, 1280] (rbox (by omega)), shapeCast S256x1280 (truncf (F := Ideal) .fp8e4m3 (transpose S256x1280 [1, 0]
    (extf .bf16 (cols (e := .fp8e4m3) x2 (256 * i.val) 256 (by omega)) bitsLt_fp8e4m3_bf16) transposes_S1280x256_p1_0_S256x1280)
    bitsLt_fp8e4m3_bf16) shapeCasts_S256x1280_S256x1280⟩

/-- One chunk of a row turned into columns: 256 of its entries, each repeated along 128 columns. -/
def cP (x : Vec Ideal S1x3840 .f32) (i : Fin 15) : View.Piece (Elt Ideal) S3840x128 .f32 :=
  ⟨Rect.unit ![256 * i.val, 0] ![256, 128] (rbox (by omega)), shapeCast S256x128 (transpose S256x128 [1, 0] (broadcastTo S128x256
    (shapeCast S1x256 (shapeCast S1x256 (cols (e := .f32) x (256 * i.val) 256 (by omega)) shapeCasts_S1x256_S1x256) shapeCasts_S1x256_S1x256)
    broadcasts_S1x256_S128x256) transposes_S128x256_p1_0_S256x128) shapeCasts_S256x128_S256x128⟩

/-- The stores into the transposed weight's scratch, last first. -/
def wL (x2 : Vec Ideal S1280x3840 .fp8e4m3) := down 15 (wP x2)

/-- The stores into the scales' scratch, or the biases', last first. -/
def cL (x : Vec Ideal S1x3840 .f32) := down 15 (cP x)

/-- Three hundred and twenty channels of the projection: four heads. -/
def acc (q : FVec Ideal S256x1280 .fp8e4m3) (s : FVec Ideal S1x256 .f32) (wt : Vec Ideal S3840x1280 .fp8e4m3)
    (st bt : Vec Ideal S3840x128 .f32) (o : ℕ) (h : o + 320 ≤ 3840) : FVec Ideal S320x256 .f32 :=
  VRows.linT (rows (e := .fp8e4m3) wt o 320 h) q s (rows (e := .f32) st o 320 h) (rows (e := .f32) bt o 320 h)
    broadcasts_S1x256_S320x256 concatenates_S320x128_S320x128_S320x256_d1

/-- One head of four. -/
def part (v : FVec Ideal S320x256 .f32) (a : ℕ) (h : a + 80 ≤ 320) : FVec Ideal S80x256 .f32 :=
  extractStridedSlice S80x256 ![a, 0] v ⟨rfl, Fin.forall_fin_two.2 ⟨h, Nat.le_refl 256⟩⟩

section

variable (q : FVec Ideal S256x1280 .fp8e4m3) (s : FVec Ideal S1x256 .f32) (ct sn : FVec Ideal S80x256 .f32) (mk : FVec Ideal S48x256 .bf16)
  (wt : Vec Ideal S3840x1280 .fp8e4m3) (st bt : Vec Ideal S3840x128 .f32)

/-- The store of one query head. -/
def qP (h : Fin 16) : View.Piece (Elt Ideal) S2048x256 .bf16 :=
  ⟨Rect.unit ![128 * h.val, 0] ![128, 256] (rbox (by omega)),
    VRows.headT (part (acc q s wt st bt (320 * (h.val / 4)) (by omega)) (80 * (h.val % 4)) (by omega)) ct sn mk
      slices_S80x256_o40_0_S40x256 slices_S80x256_o0_0_S40x256 concatenates_S40x256_S40x256_S80x256_d0
      concatenates_S80x256_S48x256_S128x256_d0⟩

/-- The store of one key head. -/
def kP (h : Fin 16) : View.Piece (Elt Ideal) S256x2048 .bf16 :=
  ⟨Rect.unit ![0, 128 * h.val] ![256, 128] (box (by omega)),
    transpose S256x128 [1, 0] (VRows.headT (part (acc q s wt st bt (1280 + 320 * (h.val / 4)) (by omega)) (80 * (h.val % 4)) (by omega))
      ct sn mk slices_S80x256_o40_0_S40x256 slices_S80x256_o0_0_S40x256 concatenates_S40x256_S40x256_S80x256_d0
      concatenates_S80x256_S48x256_S128x256_d0) transposes_S128x256_p1_0_S256x128⟩

/-- The store of one value head. -/
def vP (h : Fin 16) : View.Piece (Elt Ideal) S1280x256 .bf16 :=
  ⟨Rect.unit ![80 * h.val, 0] ![80, 256] (rbox (by omega)),
    truncf .bf16 (part (acc q s wt st bt (2560 + 320 * (h.val / 4)) (by omega)) (80 * (h.val % 4)) (by omega)) bitsLt_bf16_f32⟩

/-- The stores into the queries' block, last first. -/
def qL := down 16 (qP q s ct sn mk wt st bt)

/-- The stores into the keys' block, last first. -/
def kL := down 16 (kP q s ct sn mk wt st bt)

/-- The stores into the values' block, last first. -/
def vL := down 16 (vP q s wt st bt)

end

/-- What a list of pieces leaves, the list written another way. -/
theorem fold {s : Shape} {e : EltTy} {L : List (View.Piece (Elt Ideal) s e)} (L' : List (View.Piece (Elt Ideal) s e)) (h : L = L') :
    View.canon L = View.canon L' := h ▸ rfl

/-- Reading back the weight's scratch after writing it whole. -/
theorem scr0 (x : Vec Ideal S3840x1280 .fp8e4m3) :
    View.read (Elt Ideal) (View.whole cc0_scratch0) ((Memref.isWhole_whole cc0_scratch0).unread x) = x :=
  (Memref.isWhole_whole cc0_scratch0).read_unread x

/-- Reading back the scales' scratch after writing it whole. -/
theorem scr1 (x : Vec Ideal S3840x128 .f32) :
    View.read (Elt Ideal) (View.whole cc0_scratch1) ((Memref.isWhole_whole cc0_scratch1).unread x) = x :=
  (Memref.isWhole_whole cc0_scratch1).read_unread x

/-- Reading back the biases' scratch after writing it whole. -/
theorem scr2 (x : Vec Ideal S3840x128 .f32) :
    View.read (Elt Ideal) (View.whole cc0_scratch2) ((Memref.isWhole_whole cc0_scratch2).unread x) = x :=
  (Memref.isWhole_whole cc0_scratch2).read_unread x

section

variable (c : Dev nD) (t : Fin cfg0.N) (x0 : Vec Ideal S256x1280 .bf16) (x1 : Vec Ideal S1x1280 .f32) (x2 : Vec Ideal S1280x3840 .fp8e4m3) (x3 : Vec Ideal S1x3840 .f32) (x4 : Vec Ideal S1x3840 .f32) (x5 : Vec Ideal S256x80 .f32) (x6 : Vec Ideal S256x80 .f32) (x7 : Vec Ideal S1x256 .i32) (xs0 : Vec Ideal S3840x1280 .fp8e4m3) (xs1 : Vec Ideal S3840x128 .f32) (xs2 : Vec Ideal S3840x128 .f32)

set_option maxHeartbeats 8000000 in
/-- The codes' block after the first point. -/
theorem out8A_eq (h : cond0_0 (grid0.coords t)) : out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) h x0 x1 x2 x3 x4 x5 x6 x7
    = k0_pay56 x0 x1 := by
  unfold out0_A_8
  rw [View.read_writes_junk_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, readCov_ld]
  simp only [View.ld_unit_zero (S := S256x1280) (off := ![0, 0]) (by decide), View.ld_unit_zero (S := S1x1280) (off := ![0, 0]) (by decide), View.ld_unit_zero (S := S256x80) (off := ![0, 0]) (by decide), View.ld_unit_zero (S := S1x256) (off := ![0, 0]) (by decide)]
  rw [View.canon_unit_zero (S := S256x1280) (off := ![0, 0]) (by decide)]

set_option maxHeartbeats 8000000 in
/-- The scales' block after the first point. -/
theorem out9A_eq (h : cond0_0 (grid0.coords t)) : out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) h x0 x1 x2 x3 x4 x5 x6 x7
    = k0_pay57 x0 x1 := by
  unfold out0_A_9
  rw [View.read_writes_junk_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, readCov_ld]
  simp only [View.ld_unit_zero (S := S256x1280) (off := ![0, 0]) (by decide), View.ld_unit_zero (S := S1x1280) (off := ![0, 0]) (by decide), View.ld_unit_zero (S := S256x80) (off := ![0, 0]) (by decide), View.ld_unit_zero (S := S1x256) (off := ![0, 0]) (by decide)]
  rw [View.canon_unit_zero (S := S1x256) (off := ![0, 0]) (by decide)]

set_option maxHeartbeats 8000000 in
/-- The queries' block after the first point. -/
theorem out10A_eq (h : cond0_0 (grid0.coords t)) : out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) h x0 x1 x2 x3 x4 x5 x6 x7
    = View.canon (qL (k0_pay56 x0 x1) (k0_pay57 x0 x1) (k0_pay58 x5) (k0_pay59 x6) (k0_pay61 x7) (View.canon (wL x2)) (View.canon (cL x3)) (View.canon (cL x4))) := by
  unfold out0_A_10
  rw [View.read_writes_junk_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, readCov_ld]
  simp only [View.ld_unit_zero (S := S256x1280) (off := ![0, 0]) (by decide), View.ld_unit_zero (S := S1x1280) (off := ![0, 0]) (by decide), View.ld_unit_zero (S := S256x80) (off := ![0, 0]) (by decide), View.ld_unit_zero (S := S1x256) (off := ![0, 0]) (by decide)]
  rw [fold (wL x2), fold (cL x3)]
  generalize View.canon (wL x2) = W
  generalize View.canon (cL x3) = S
  rw [fold (cL x4)]
  generalize View.canon (cL x4) = B
  all_goals rfl

set_option maxHeartbeats 8000000 in
/-- The keys' block after the first point. -/
theorem out11A_eq (h : cond0_0 (grid0.coords t)) : out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) h x0 x1 x2 x3 x4 x5 x6 x7
    = View.canon (kL (k0_pay56 x0 x1) (k0_pay57 x0 x1) (k0_pay58 x5) (k0_pay59 x6) (k0_pay62 x7) (View.canon (wL x2)) (View.canon (cL x3)) (View.canon (cL x4))) := by
  unfold out0_A_11
  rw [View.read_writes_junk_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, readCov_ld]
  simp only [View.ld_unit_zero (S := S256x1280) (off := ![0, 0]) (by decide), View.ld_unit_zero (S := S1x1280) (off := ![0, 0]) (by decide), View.ld_unit_zero (S := S256x80) (off := ![0, 0]) (by decide), View.ld_unit_zero (S := S1x256) (off := ![0, 0]) (by decide)]
  rw [fold (wL x2), fold (cL x3)]
  generalize View.canon (wL x2) = W
  generalize View.canon (cL x3) = S
  rw [fold (cL x4)]
  generalize View.canon (cL x4) = B
  all_goals rfl

set_option maxHeartbeats 8000000 in
/-- The values' block after the first point. -/
theorem out12A_eq (h : cond0_0 (grid0.coords t)) : out0_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) h x0 x1 x2 x3 x4 x5 x6 x7
    = View.canon (vL (k0_pay56 x0 x1) (k0_pay57 x0 x1) (View.canon (wL x2)) (View.canon (cL x3)) (View.canon (cL x4))) := by
  unfold out0_A_12
  rw [View.read_writes_junk_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, readCov_ld]
  simp only [View.ld_unit_zero (S := S256x1280) (off := ![0, 0]) (by decide), View.ld_unit_zero (S := S1x1280) (off := ![0, 0]) (by decide), View.ld_unit_zero (S := S256x80) (off := ![0, 0]) (by decide), View.ld_unit_zero (S := S1x256) (off := ![0, 0]) (by decide)]
  rw [fold (wL x2), fold (cL x3)]
  generalize View.canon (wL x2) = W
  generalize View.canon (cL x3) = S
  rw [fold (cL x4)]
  generalize View.canon (cL x4) = B
  all_goals rfl

set_option maxHeartbeats 8000000 in
/-- The codes' block after a later point. -/
theorem out8B_eq (h : ¬cond0_0 (grid0.coords t)) : out0_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) h x0 x1 x2 x3 x4 x5 x6 x7 xs0 xs1 xs2
    = k0_pay56 x0 x1 := by
  unfold out0_B_8
  rw [View.read_writes_junk_eq_canon]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, scr0, scr1, scr2]
  simp only [View.ld_unit_zero (S := S256x1280) (off := ![0, 0]) (by decide), View.ld_unit_zero (S := S1x1280) (off := ![0, 0]) (by decide), View.ld_unit_zero (S := S256x80) (off := ![0, 0]) (by decide), View.ld_unit_zero (S := S1x256) (off := ![0, 0]) (by decide)]
  rw [View.canon_unit_zero (S := S256x1280) (off := ![0, 0]) (by decide)]

set_option maxHeartbeats 8000000 in
/-- The scales' block after a later point. -/
theorem out9B_eq (h : ¬cond0_0 (grid0.coords t)) : out0_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) h x0 x1 x2 x3 x4 x5 x6 x7 xs0 xs1 xs2
    = k0_pay57 x0 x1 := by
  unfold out0_B_9
  rw [View.read_writes_junk_eq_canon]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, scr0, scr1, scr2]
  simp only [View.ld_unit_zero (S := S256x1280) (off := ![0, 0]) (by decide), View.ld_unit_zero (S := S1x1280) (off := ![0, 0]) (by decide), View.ld_unit_zero (S := S256x80) (off := ![0, 0]) (by decide), View.ld_unit_zero (S := S1x256) (off := ![0, 0]) (by decide)]
  rw [View.canon_unit_zero (S := S1x256) (off := ![0, 0]) (by decide)]

set_option maxHeartbeats 8000000 in
/-- The queries' block after a later point. -/
theorem out10B_eq (h : ¬cond0_0 (grid0.coords t)) : out0_B_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) h x0 x1 x2 x3 x4 x5 x6 x7 xs0 xs1 xs2
    = View.canon (qL (k0_pay56 x0 x1) (k0_pay57 x0 x1) (k0_pay58 x5) (k0_pay59 x6) (k0_pay61 x7) xs0 xs1 xs2) := by
  unfold out0_B_10
  rw [View.read_writes_junk_eq_canon]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, scr0, scr1, scr2]
  simp only [View.ld_unit_zero (S := S256x1280) (off := ![0, 0]) (by decide), View.ld_unit_zero (S := S1x1280) (off := ![0, 0]) (by decide), View.ld_unit_zero (S := S256x80) (off := ![0, 0]) (by decide), View.ld_unit_zero (S := S1x256) (off := ![0, 0]) (by decide)]
  rfl

set_option maxHeartbeats 8000000 in
/-- The keys' block after a later point. -/
theorem out11B_eq (h : ¬cond0_0 (grid0.coords t)) : out0_B_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) h x0 x1 x2 x3 x4 x5 x6 x7 xs0 xs1 xs2
    = View.canon (kL (k0_pay56 x0 x1) (k0_pay57 x0 x1) (k0_pay58 x5) (k0_pay59 x6) (k0_pay62 x7) xs0 xs1 xs2) := by
  unfold out0_B_11
  rw [View.read_writes_junk_eq_canon]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, scr0, scr1, scr2]
  simp only [View.ld_unit_zero (S := S256x1280) (off := ![0, 0]) (by decide), View.ld_unit_zero (S := S1x1280) (off := ![0, 0]) (by decide), View.ld_unit_zero (S := S256x80) (off := ![0, 0]) (by decide), View.ld_unit_zero (S := S1x256) (off := ![0, 0]) (by decide)]
  rfl

set_option maxHeartbeats 8000000 in
/-- The values' block after a later point. -/
theorem out12B_eq (h : ¬cond0_0 (grid0.coords t)) : out0_B_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) h x0 x1 x2 x3 x4 x5 x6 x7 xs0 xs1 xs2
    = View.canon (vL (k0_pay56 x0 x1) (k0_pay57 x0 x1) xs0 xs1 xs2) := by
  unfold out0_B_12
  rw [View.read_writes_junk_eq_canon]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, scr0, scr1, scr2]
  simp only [View.ld_unit_zero (S := S256x1280) (off := ![0, 0]) (by decide), View.ld_unit_zero (S := S1x1280) (off := ![0, 0]) (by decide), View.ld_unit_zero (S := S256x80) (off := ![0, 0]) (by decide), View.ld_unit_zero (S := S1x256) (off := ![0, 0]) (by decide)]
  rfl

set_option maxHeartbeats 8000000 in
/-- The transposed weight's scratch after the first point. -/
theorem sout0_eq (h : cond0_0 (grid0.coords t)) : sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) h x0 x1 x2 x3 x4 x5 x6 x7
    = View.canon (wL x2) := by
  unfold sout0_A_0
  rw [View.read_writes_junk_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, readCov_ld]
  rfl

set_option maxHeartbeats 8000000 in
/-- The scales' scratch after the first point. -/
theorem sout1_eq (h : cond0_0 (grid0.coords t)) : sout0_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) h x0 x1 x2 x3 x4 x5 x6 x7
    = View.canon (cL x3) := by
  unfold sout0_A_1
  rw [View.read_writes_junk_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, readCov_ld]
  rfl

set_option maxHeartbeats 8000000 in
/-- The biases' scratch after the first point. -/
theorem sout2_eq (h : cond0_0 (grid0.coords t)) : sout0_A_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) h x0 x1 x2 x3 x4 x5 x6 x7
    = View.canon (cL x4) := by
  unfold sout0_A_2
  rw [View.read_writes_junk_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, readCov_ld]
  rfl

end

end Cert.QPieces
-- ==== Proof.QKRows.lean ====
module

public import proofs.«01_k».proof.Proof.QPieces

@[expose] public section

set_option maxRecDepth 16384

noncomputable section

namespace Cert.QKRows

open Cert.QkvKernelIdeal Cert.QkvKernelIdeal.Gen Cert.QPieces Idealize.ShloMosaic Idealize.ShloMosaic.TcCoe
open Cert.KPieces (box cols cols_apply)

/-! What one grid point of the projection's kernel leaves in its blocks, at an index, as the row functions. -/

/-- The index a row chunk's entry has in the whole array. -/
theorem emb_rows {n m o w : ℕ} (h : o + w ≤ n) (r : Fin w) (j : Fin m) :
    (Rect.unit (s := VRows.M n m) ![o, 0] ![w, m] (rbox h)).emb (ix2 r j) = ix2 ⟨o + r, by omega⟩ j := by
  refine funext fun a => Fin.ext ?_
  refine Fin.cases ?_ (fun a => Fin.cases ?_ (fun a => a.elim0) a) a
  · show o + 1 * r.val = o + r.val
    omega
  · show 0 + 1 * j.val = j.val
    omega

/-- A row chunk that holds a function's entries at their places. -/
theorem pieces_rows {n m o w : ℕ} {e : EltTy} (h : o + w ≤ n) (f : (VRows.M w m).Idx → Elt Ideal e) (G : (VRows.M n m).Idx → Elt Ideal e)
    (hf : ∀ (r : Fin w) (j : Fin m), f (ix2 r j) = G (ix2 ⟨o + r, by omega⟩ j)) (x : (VRows.M w m).Idx) :
    f x = G ((Rect.unit (s := VRows.M n m) ![o, 0] ![w, m] (rbox h)).emb x) := by
  rw [eq_ix2 x]
  exact (hf _ _).trans (congrArg G (emb_rows h (x 0) (x 1)).symm)

/-- The normalised rows. -/
theorem pay54_apply (x0 : Vec Ideal S256x1280 .bf16) (x1 : Vec Ideal S1x1280 .f32) (r : Fin 256) (j : Fin 1280) :
    k0_pay54 x0 x1 (ix2 r j) = Rows.rms (fun j => x0 (ix2 r j)) (fun j => x1 (ix2 0 j)) j := by
  have e := VRows.rms_apply (extf (F := Ideal) .f32 x0 bitsLt_bf16_f32) (shapeCast S1x1280 x1 shapeCasts_S1x1280_S1x1280)
    reduces_S256x1280_S256 shapeCasts_S256_S256x1 broadcasts_S256x1_S256x1280 broadcasts_S1x1280_S256x1280 r j
  refine e.trans ?_
  rw [shapeCast_id]
  rfl

/-- Their scales. -/
theorem pay55_apply (x0 : Vec Ideal S256x1280 .bf16) (x1 : Vec Ideal S1x1280 .f32) (r : Fin 256) :
    k0_pay55 x0 x1 (ix2 r 0) = Rows.qscale (Rows.rms (fun j => x0 (ix2 r j)) fun j => x1 (ix2 0 j)) :=
  (VRows.scale2_apply (k0_pay54 x0 x1) reduces_S256x1280_S256 shapeCasts_S256_S256x1 r).trans
    (congrArg Rows.qscale (funext fun j => pay54_apply x0 x1 r j))

/-- Their codes. -/
theorem pay56_apply (x0 : Vec Ideal S256x1280 .bf16) (x1 : Vec Ideal S1x1280 .f32) (r : Fin 256) (j : Fin 1280) :
    k0_pay56 x0 x1 (ix2 r j) = Rows.qcode (Rows.rms (fun j => x0 (ix2 r j)) fun j => x1 (ix2 0 j)) j :=
  (VRows.codes_apply (k0_pay54 x0 x1) (k0_pay55 x0 x1) broadcasts_S256x1_S256x1280 r
    (VRows.scale2_apply (k0_pay54 x0 x1) reduces_S256x1280_S256 shapeCasts_S256_S256x1 r) j).trans
    (congrArg (Rows.qcode · j) (funext fun j => pay54_apply x0 x1 r j))

/-- Their scales, as a row. -/
theorem pay57_apply (x0 : Vec Ideal S256x1280 .bf16) (x1 : Vec Ideal S1x1280 .f32) (r : Fin 256) :
    k0_pay57 x0 x1 (ix2 0 r) = Rows.qscale (Rows.rms (fun j => x0 (ix2 r j)) fun j => x1 (ix2 0 j)) :=
  (VRows.turn_apply (l := 128) (k0_pay55 x0 x1) shapeCasts_S256x1_S256x1 broadcasts_S256x1_S256x128 transposes_S256x128_p1_0_S128x256
    slices_S128x256_o0_0_S1x256 r).trans (pay55_apply x0 x1 r)

/-- The cosines, channels first. -/
theorem pay58_apply (x5 : Vec Ideal S256x80 .f32) (d : Fin 80) (r : Fin 256) : k0_pay58 (F := Ideal) x5 (ix2 d r) = x5 (ix2 r d) :=
  VRows.tr_apply x5 transposes_S256x80_p1_0_S80x256 r d

/-- The sines, channels first. -/
theorem pay59_apply (x6 : Vec Ideal S256x80 .f32) (d : Fin 80) (r : Fin 256) : k0_pay59 (F := Ideal) x6 (ix2 d r) = x6 (ix2 r d) :=
  VRows.tr_apply x6 transposes_S256x80_p1_0_S80x256 r d

/-- The queries' marks. -/
theorem pay61_apply (x7 : Vec Ideal S1x256 .i32) (k : Fin 48) (r : Fin 256) : k0_pay61 x7 (ix2 k r)
    = Rows.mark (Scalar.ofBits (F := Ideal) .f32 0x00000000#32) (Scalar.ofBits (F := Ideal) .f32 0xF1800000#32) (x7 (ix2 0 r)) k :=
  VRows.markT_apply x7 _ _ shapeCasts_S1x256_S1x256 iota_S48x256_d0_w32 broadcasts_S1x256_S48x256 bitsLt_bf16_f32 k r

/-- The keys' marks. -/
theorem pay62_apply (x7 : Vec Ideal S1x256 .i32) (k : Fin 48) (r : Fin 256) : k0_pay62 x7 (ix2 k r)
    = Rows.mark (Scalar.ofBits (F := Ideal) .f32 0x3F800000#32) (Scalar.ofBits (F := Ideal) .f32 0x00000000#32) (x7 (ix2 0 r)) k :=
  VRows.markT_apply x7 _ _ shapeCasts_S1x256_S1x256 iota_S48x256_d0_w32 broadcasts_S1x256_S48x256 bitsLt_bf16_f32 k r

/-- The transposed weight's scratch holds the weight's columns as rows. -/
theorem wv_apply (x2 : Vec Ideal S1280x3840 .fp8e4m3) (j : Fin 3840) (x : Fin 1280) : View.canon (wL x2) (ix2 j x) = x2 (ix2 x j) := by
  refine View.canon_apply_of_pieces (fun y => x2 (ix2 (y 1) (y 0))) _ (forall_down 15 _ fun i => ?_) _
    (View.cover_of_tiledL (wL x2) (![256, 1280] : Fin 2 → ℕ) (by sl_kernel_rfl) _)
  refine pieces_rows (n := 3840) (m := 1280) (o := 256 * i.val) (w := 256) (e := .fp8e4m3) (by omega) (wP x2 i).2 (fun y => x2 (ix2 (y 1) (y 0))) fun r j => ?_
  unfold wP
  dsimp only
  rw [shapeCast_id]
  exact (VRows.tr_apply (a := 1280) (b := 256) (cols (e := .fp8e4m3) x2 (256 * i.val) 256 (by omega)) transposes_S1280x256_p1_0_S256x1280 j r).trans
    (cols_apply (e := .fp8e4m3) x2 (256 * i.val) 256 (by omega) j r)

/-- The scales' scratch, or the biases', holds the row's entries, each repeated. -/
theorem cv_apply (x : Vec Ideal S1x3840 .f32) (j : Fin 3840) (y : Fin 128) : View.canon (cL x) (ix2 j y) = x (ix2 0 j) := by
  refine View.canon_apply_of_pieces (fun y => x (ix2 0 (y 0))) _ (forall_down 15 _ fun i => ?_) _
    (View.cover_of_tiledL (cL x) (![256, 128] : Fin 2 → ℕ) (by sl_kernel_rfl) _)
  refine pieces_rows (n := 3840) (m := 128) (o := 256 * i.val) (w := 256) (e := .f32) (by omega) (cP x i).2 (fun y => x (ix2 0 (y 0))) fun r j => ?_
  unfold cP
  dsimp only
  rw [shapeCast_id, shapeCast_id, shapeCast_id]
  refine (VRows.tr_apply (a := 128) (b := 256) _ transposes_S128x256_p1_0_S256x128 j r).trans ?_
  exact (VRows.brow_apply (n := 128) (m := 256) _ broadcasts_S1x256_S128x256 j r).trans (cols_apply (e := .f32) x (256 * i.val) 256 (by omega) 0 r)

section

variable (q : FVec Ideal S256x1280 .fp8e4m3) (s : FVec Ideal S1x256 .f32) (ct sn : FVec Ideal S80x256 .f32) (mk : FVec Ideal S48x256 .bf16)
  (wt : Vec Ideal S3840x1280 .fp8e4m3) (st bt : Vec Ideal S3840x128 .f32)
  (v : Fin 256 → Fin 1280 → EReal) (W : Fin 1280 → Fin 3840 → EReal) (S B : Fin 3840 → EReal) (g : Fin 256 → BitVec 32)
  (hq : ∀ r x, q (ix2 r x) = Rows.qcode (v r) x) (hs : ∀ r, s (ix2 0 r) = Rows.qscale (v r))
  (hw : ∀ j x, wt (ix2 j x) = W x j) (hst : ∀ j y, st (ix2 j y) = S j) (hbt : ∀ j y, bt (ix2 j y) = B j)

include hq hs hw hst hbt

/-- One head's channels of the projection. -/
theorem part_apply (o a : ℕ) (h : o + 320 ≤ 3840) (h' : a + 80 ≤ 320) (d : Fin 80) (r : Fin 256) :
    part (acc q s wt st bt o h) a h' (ix2 d r) = Rows.lin (v r) W S B ⟨o + (a + d.val), by omega⟩ := by
  unfold part
  refine (VRows.slice0_apply (a := 320) (k := 80) (n := 256) _ _ h' d r).trans ?_
  unfold acc
  exact VRows.linT_apply (k := 1280) (m := 320) _ q s _ _ _ _ ⟨a + d.val, by omega⟩ r (v r) W S B _ (hq r) (hs r)
    (fun x => (rows_apply (e := .fp8e4m3) wt o 320 h _ x).trans (hw _ x))
    (fun y => (rows_apply (e := .f32) st o 320 h _ y).trans (hst _ y))
    (fun y => (rows_apply (e := .f32) bt o 320 h _ y).trans (hbt _ y))

/-- A query head's store. -/
theorem qP_apply (hm : ∀ k r, mk (ix2 k r) = Rows.mark (Scalar.ofBits (F := Ideal) .f32 0x00000000#32) (Scalar.ofBits (F := Ideal) .f32 0xF1800000#32) (g r) k)
    (h : Fin 16) (d : Fin 128) (r : Fin 256) : (qP q s ct sn mk wt st bt h).2 (ix2 d r)
      = Rows.qrow (Rows.lin (v r) W S B) (fun d => ct (ix2 d r)) (fun d => sn (ix2 d r)) (g r) ⟨128 * h.val + d.val, by omega⟩ := by
  unfold qP Rows.qrow
  dsimp only
  refine (VRows.headT_apply (n := 256) _ ct sn mk slices_S80x256_o40_0_S40x256 slices_S80x256_o0_0_S40x256
    concatenates_S40x256_S40x256_S80x256_d0 concatenates_S80x256_S48x256_S128x256_d0 d r).trans ?_
  simp only [hm, part_apply q s wt st bt v W S B hq hs hw hst hbt]
  congr 1
  · refine funext fun e => congrArg _ (Fin.ext ?_)
    show 320 * (h.val / 4) + (80 * (h.val % 4) + e.val) = 80 * ((128 * h.val + d.val) / 128) + e.val
    omega
  · refine Fin.ext ?_
    show d.val = (128 * h.val + d.val) % 128
    omega

/-- A key head's store. -/
theorem kP_apply (hm : ∀ k r, mk (ix2 k r) = Rows.mark (Scalar.ofBits (F := Ideal) .f32 0x3F800000#32) (Scalar.ofBits (F := Ideal) .f32 0x00000000#32) (g r) k)
    (h : Fin 16) (r : Fin 256) (d : Fin 128) : (kP q s ct sn mk wt st bt h).2 (ix2 r d)
      = Rows.krow (Rows.lin (v r) W S B) (fun d => ct (ix2 d r)) (fun d => sn (ix2 d r)) (g r) ⟨128 * h.val + d.val, by omega⟩ := by
  unfold kP Rows.krow
  dsimp only
  refine (VRows.tr_apply (a := 128) (b := 256) _ transposes_S128x256_p1_0_S256x128 d r).trans ?_
  refine (VRows.headT_apply (n := 256) _ ct sn mk slices_S80x256_o40_0_S40x256 slices_S80x256_o0_0_S40x256
    concatenates_S40x256_S40x256_S80x256_d0 concatenates_S80x256_S48x256_S128x256_d0 d r).trans ?_
  simp only [hm, part_apply q s wt st bt v W S B hq hs hw hst hbt]
  congr 1
  · refine funext fun e => congrArg _ (Fin.ext ?_)
    show 1280 + 320 * (h.val / 4) + (80 * (h.val % 4) + e.val) = 1280 + 80 * ((128 * h.val + d.val) / 128) + e.val
    omega
  · refine Fin.ext ?_
    show d.val = (128 * h.val + d.val) % 128
    omega

/-- A value head's store. -/
theorem vP_apply (h : Fin 16) (d : Fin 80) (r : Fin 256) : (vP q s wt st bt h).2 (ix2 d r)
      = Rows.vrow (Rows.lin (v r) W S B) ⟨80 * h.val + d.val, by omega⟩ := by
  unfold vP Rows.vrow
  dsimp only
  refine (part_apply q s wt st bt v W S B hq hs hw hst hbt (2560 + 320 * (h.val / 4)) (80 * (h.val % 4)) (by omega) (by omega) d r).trans (congrArg _ (Fin.ext ?_))
  show 2560 + 320 * (h.val / 4) + (80 * (h.val % 4) + d.val) = 2560 + (80 * h.val + d.val)
  omega

/-- The queries' block. -/
theorem qv_apply (hm : ∀ k r, mk (ix2 k r) = Rows.mark (Scalar.ofBits (F := Ideal) .f32 0x00000000#32) (Scalar.ofBits (F := Ideal) .f32 0xF1800000#32) (g r) k)
    (j : Fin 2048) (r : Fin 256) : View.canon (qL q s ct sn mk wt st bt) (ix2 j r)
      = Rows.qrow (Rows.lin (v r) W S B) (fun d => ct (ix2 d r)) (fun d => sn (ix2 d r)) (g r) j := by
  refine View.canon_apply_of_pieces (fun y => Rows.qrow (Rows.lin (v (y 1)) W S B) (fun d => ct (ix2 d (y 1))) (fun d => sn (ix2 d (y 1))) (g (y 1)) (y 0)) _
    (forall_down 16 _ fun i => ?_) _
    (View.cover_of_tiledL (qL q s ct sn mk wt st bt) (![128, 256] : Fin 2 → ℕ) (by sl_kernel_rfl) _)
  exact pieces_rows (n := 2048) (m := 256) (o := 128 * i.val) (w := 128) (e := .bf16) (by omega) (qP q s ct sn mk wt st bt i).2
    (fun y => Rows.qrow (Rows.lin (v (y 1)) W S B) (fun d => ct (ix2 d (y 1))) (fun d => sn (ix2 d (y 1))) (g (y 1)) (y 0))
    fun d r => qP_apply q s ct sn mk wt st bt v W S B g hq hs hw hst hbt hm i d r

/-- The keys' block. -/
theorem kv_apply (hm : ∀ k r, mk (ix2 k r) = Rows.mark (Scalar.ofBits (F := Ideal) .f32 0x3F800000#32) (Scalar.ofBits (F := Ideal) .f32 0x00000000#32) (g r) k)
    (r : Fin 256) (j : Fin 2048) : View.canon (kL q s ct sn mk wt st bt) (ix2 r j)
      = Rows.krow (Rows.lin (v r) W S B) (fun d => ct (ix2 d r)) (fun d => sn (ix2 d r)) (g r) j := by
  refine View.canon_apply_of_pieces (fun y => Rows.krow (Rows.lin (v (y 0)) W S B) (fun d => ct (ix2 d (y 0))) (fun d => sn (ix2 d (y 0))) (g (y 0)) (y 1)) _
    (forall_down 16 _ fun i => ?_) _
    (View.cover_of_tiledL (kL q s ct sn mk wt st bt) (![256, 128] : Fin 2 → ℕ) (by sl_kernel_rfl) _)
  exact KRows.pieces_cols (n := 256) (m := 2048) (o := 128 * i.val) (w := 128) (e := .bf16) (by omega) (kP q s ct sn mk wt st bt i).2
    (fun y => Rows.krow (Rows.lin (v (y 0)) W S B) (fun d => ct (ix2 d (y 0))) (fun d => sn (ix2 d (y 0))) (g (y 0)) (y 1))
    fun r d => kP_apply q s ct sn mk wt st bt v W S B g hq hs hw hst hbt hm i r d

/-- The values' block. -/
theorem vv_apply (j : Fin 1280) (r : Fin 256) : View.canon (vL q s wt st bt) (ix2 j r) = Rows.vrow (Rows.lin (v r) W S B) j := by
  refine View.canon_apply_of_pieces (fun y => Rows.vrow (Rows.lin (v (y 1)) W S B) (y 0)) _ (forall_down 16 _ fun i => ?_) _
    (View.cover_of_tiledL (vL q s wt st bt) (![80, 256] : Fin 2 → ℕ) (by sl_kernel_rfl) _)
  exact pieces_rows (n := 1280) (m := 256) (o := 80 * i.val) (w := 80) (e := .bf16) (by omega) (vP q s wt st bt i).2
    (fun y => Rows.vrow (Rows.lin (v (y 1)) W S B) (y 0))
    fun d r => vP_apply q s wt st bt v W S B hq hs hw hst hbt i d r

end

end Cert.QKRows
-- ==== Proof.Q3Rows.lean ====
module

public import proofs.«01_k».proof.Proof.QVRows

@[expose] public section

set_option maxRecDepth 16384

noncomputable section

/-! Vector operations on arrays of rows by heads by channels, for any number of rows, read at an index. -/

namespace Cert.VRows

open Idealize.ShloMosaic

variable {n : ℕ}

/-- A rank-three shape. -/
abbrev T (a b c : ℕ) : Shape := ⟨3, ![a, b, c]⟩

/-- A statement of the three axes. -/
theorem three {p : Fin 3 → Prop} (h0 : p 0) (h1 : p 1) (h2 : p 2) : ∀ a, p a :=
  Fin.cases h0 (Fin.cases h1 (Fin.cases h2 fun a => a.elim0))

/-- Two arrays one beside the other along the channels. -/
theorem cat2_apply {α : Type} {a b k l : ℕ} (x : (T n l a).Idx → α) (y : (T n l b).Idx → α)
    (h : Shape.Concatenates [T n l a, T n l b] (T n l k) 2) (hk : k = a + b) (r : Fin n) (i : Fin l) (d : Fin k) :
    concatenate (T n l k) 2 [⟨T n l a, x⟩, ⟨T n l b, y⟩] h (ix3 r i d)
      = if h : d.val < a then x (ix3 r i ⟨d.val, h⟩) else y (ix3 r i ⟨d.val - a, by omega⟩) := by
  split
  · rename_i hd
    refine concatenate_pair_apply_left (s₁ := T n l a) (s₂ := T n l b) 2 x y h (ix3 r i d) rfl (ix3 r i ⟨d.val, hd⟩) ?_
    exact three rfl rfl rfl
  · rename_i hd
    refine concatenate_pair_apply_right (s₁ := T n l a) (s₂ := T n l b) 2 x y h (ix3 r i d) rfl rfl
      (ix3 r i ⟨d.val - a, by omega⟩) ?_ ?_
    · exact three (fun _ => rfl) (fun _ => rfl) (fun e => absurd rfl e)
    · show d.val - a + a = d.val
      omega

/-- Some channels. -/
theorem slice2_apply {α : Type} {l a k o : ℕ} (x : (T n l a).Idx → α) (h : (T n l a).Slices ![0, 0, o] (T n l k)) (ho : o + k ≤ a)
    (r : Fin n) (i : Fin l) (d : Fin k) :
    extractStridedSlice (T n l k) ![0, 0, o] x h (ix3 r i d) = x (ix3 r i ⟨o + d.val, by omega⟩) := by
  refine extractStridedSlice_apply (s := T n l a) (t := T n l k) ![0, 0, o] x h (ix3 r i d) (ix3 r i ⟨o + d.val, by omega⟩) ?_
  exact three (by show r.val = 0 + r.val; omega) (by show i.val = 0 + i.val; omega) rfl

/-- Some columns of a matrix. -/
theorem slice1_apply {α : Type} {a k o : ℕ} (x : (M n a).Idx → α) (h : (M n a).Slices ![0, o] (M n k)) (ho : o + k ≤ a)
    (r : Fin n) (d : Fin k) : extractStridedSlice (M n k) ![0, o] x h (ix2 r d) = x (ix2 r ⟨o + d.val, by omega⟩) := by
  refine extractStridedSlice_apply (s := M n a) (t := M n k) ![0, o] x h (ix2 r d) (ix2 r ⟨o + d.val, by omega⟩) ?_
  exact Fin.forall_fin_two.2 ⟨by show r.val = 0 + r.val; omega, rfl⟩

/-- Some entries of a vector. -/
theorem sliceV_apply {α : Type} {a k o : ℕ} (x : (V a).Idx → α) (h : (V a).Slices ![o] (V k)) (ho : o + k ≤ a)
    (d : Fin k) : extractStridedSlice (V k) ![o] x h (ix1 d) = x (ix1 ⟨o + d.val, by omega⟩) := by
  refine extractStridedSlice_apply (s := V a) (t := V k) ![o] x h (ix1 d) (ix1 ⟨o + d.val, by omega⟩) ?_
  exact Fin.forall_fin_one.2 rfl

/-- A matrix's columns as sixteen heads of eighty channels. -/
theorem split_apply {α : Type} (x : (M n 1280).Idx → α) (h : (M n 1280).ShapeCasts (T n 16 80)) (r : Fin n) (i : Fin 16) (d : Fin 80) :
    shapeCast (T n 16 80) x h (ix3 r i d) = x (ix2 r ⟨80 * i.val + d.val, by omega⟩) := by
  refine shapeCast_apply (s := M n 1280) (t := T n 16 80) x h (ix3 r i d) _ ?_
  rw [Shape.rowMajor_val_two, Shape.rowMajor_val_three]
  show r.val * 1280 + (80 * i.val + d.val) = (r.val * 16 + i.val) * 80 + d.val
  omega

/-- Sixteen heads of a hundred and twenty-eight channels as a matrix's columns. -/
theorem join_apply {α : Type} (x : (T n 16 128).Idx → α) (h : (T n 16 128).ShapeCasts (M n 2048)) (r : Fin n) (j : Fin 2048) :
    shapeCast (M n 2048) x h (ix2 r j) = x (ix3 r ⟨j.val / 128, by omega⟩ ⟨j.val % 128, by omega⟩) := by
  refine shapeCast_apply (s := T n 16 128) (t := M n 2048) x h (ix2 r j) _ ?_
  rw [Shape.rowMajor_val_two, Shape.rowMajor_val_three]
  show (r.val * 16 + j.val / 128) * 128 + j.val % 128 = r.val * 2048 + j.val
  omega

/-- A matrix with an axis of one head put in. -/
theorem mid_apply {α : Type} {k : ℕ} (x : (M n k).Idx → α) (h : (M n k).ShapeCasts (T n 1 k)) (r : Fin n) (d : Fin k) :
    shapeCast (T n 1 k) x h (ix3 r 0 d) = x (ix2 r d) := by
  refine shapeCast_apply (s := M n k) (t := T n 1 k) x h (ix3 r 0 d) _ ?_
  rw [Shape.rowMajor_val_two, Shape.rowMajor_val_three]
  show r.val * k + d.val = (r.val * 1 + 0) * k + d.val
  simp

/-- One head repeated for all. -/
theorem heads_apply {α : Type} {k l : ℕ} (x : (T n 1 k).Idx → α) (h : (T n 1 k).Broadcasts (T n l k)) (r : Fin n) (i : Fin l) (d : Fin k) :
    broadcastTo (T n l k) x h (ix3 r i d) = x (ix3 r 0 d) := by
  refine broadcastTo_apply (s := T n 1 k) (t := T n l k) x h (ix3 r i d) (ix3 r 0 d) (three ?_ ?_ ?_)
  · show r.val = if n = 1 then 0 else r.val
    have := r.isLt
    split <;> omega
  · rfl
  · show d.val = if k = 1 then 0 else d.val
    have := d.isLt
    split <;> omega

/-- A vector of words as a column repeated along the rows. -/
theorem wcol_apply {m : ℕ} {α : Type} (a : (V n).Idx → α) (h : (V n).ShapeCasts (M n 1)) (hb : (M n 1).Broadcasts (M n m)) (r : Fin n) (j : Fin m) :
    broadcastTo (M n m) (shapeCast (M n 1) a h) hb (ix2 r j) = a (ix1 r) := by
  refine (broadcastTo_apply (s := M n 1) (t := M n m) _ hb (ix2 r j) (ix2 r 0) (Fin.forall_fin_two.2 ⟨?_, rfl⟩)).trans ?_
  · show r.val = if n = 1 then 0 else r.val
    have := r.isLt
    split <;> omega
  · refine shapeCast_apply (s := V n) (t := M n 1) a h (ix2 r 0) _ ?_
    rw [Shape.rowMajor_val_two, Shape.rowMajor_val_one]
    show r.val = r.val * 1 + 0
    omega

/-- Rotary position embedding of every head. -/
def rope3 (t : FVec Ideal (T n 16 80) .f32) (c s : FVec Ideal (M n 80) .f32) (h1 : (T n 16 80).Slices ![0, 0, 40] (T n 16 40))
    (h2 : (T n 16 80).Slices ![0, 0, 0] (T n 16 40)) (hc : Shape.Concatenates [T n 16 40, T n 16 40] (T n 16 80) 2)
    (hm : (M n 80).ShapeCasts (T n 1 80)) (hb : (T n 1 80).Broadcasts (T n 16 80)) : FVec Ideal (T n 16 80) .f32 :=
  addf (mulf t (broadcastTo (T n 16 80) (shapeCast (T n 1 80) c hm) hb)) (mulf (concatenate (T n 16 80) 2
    [⟨T n 16 40, subf (broadcast (T n 16 40) (Scalar.ofBits .f32 0x00000000#32)) (extractStridedSlice (T n 16 40) ![0, 0, 40] t h1)⟩,
      ⟨T n 16 40, extractStridedSlice (T n 16 40) ![0, 0, 0] t h2⟩] hc) (broadcastTo (T n 16 80) (shapeCast (T n 1 80) s hm) hb))

/-- Its entry. -/
theorem rope3_apply (t : FVec Ideal (T n 16 80) .f32) (c s : FVec Ideal (M n 80) .f32) (h1 : (T n 16 80).Slices ![0, 0, 40] (T n 16 40))
    (h2 : (T n 16 80).Slices ![0, 0, 0] (T n 16 40)) (hc : Shape.Concatenates [T n 16 40, T n 16 40] (T n 16 80) 2)
    (hm : (M n 80).ShapeCasts (T n 1 80)) (hb : (T n 1 80).Broadcasts (T n 16 80)) (r : Fin n) (i : Fin 16) (d : Fin 80) :
    rope3 t c s h1 h2 hc hm hb (ix3 r i d)
      = Rows.rope (fun d => t (ix3 r i d)) (fun d => c (ix2 r d)) (fun d => s (ix2 r d)) d := by
  unfold rope3 Rows.rope
  dsimp only
  rw [← mid_apply c hm r d, ← heads_apply (l := 16) (shapeCast (T n 1 80) c hm) hb r i d, ← mid_apply s hm r d,
    ← heads_apply (l := 16) (shapeCast (T n 1 80) s hm) hb r i d]
  refine congrArg (t (ix3 r i d) * _ + · * _) ?_
  refine (cat2_apply _ _ hc rfl r i d).trans ?_
  split
  · rename_i hd
    exact congrArg (Scalar.ofBits (F := Ideal) .f32 0x00000000#32 - ·) (slice2_apply t h1 (by omega) r i ⟨d.val, hd⟩)
  · refine (slice2_apply t h2 (by omega) r i _).trans (congrArg (fun q => t (ix3 r i q)) (Fin.ext ?_))
    show 0 + (d.val - 40) = d.val - 40
    omega

/-- Every head with its marks. -/
def head3 (t : FVec Ideal (T n 16 80) .bf16) (mk : FVec Ideal (M n 48) .bf16)
    (hm : (M n 48).ShapeCasts (T n 1 48)) (h0 : (T n 1 48).ShapeCasts (T n 1 48)) (hb : (T n 1 48).Broadcasts (T n 16 48))
    (hc : Shape.Concatenates [T n 16 80, T n 16 48] (T n 16 128) 2) : FVec Ideal (T n 16 128) .bf16 :=
  concatenate (T n 16 128) 2 [⟨T n 16 80, t⟩,
    ⟨T n 16 48, broadcastTo (T n 16 48) (shapeCast (T n 1 48) (shapeCast (T n 1 48) mk hm) h0) hb⟩] hc

/-- Its entry, where the channels are rotated ones. -/
theorem head3_apply (t : FVec Ideal (T n 16 80) .bf16) (mk : FVec Ideal (M n 48) .bf16)
    (hm : (M n 48).ShapeCasts (T n 1 48)) (h0 : (T n 1 48).ShapeCasts (T n 1 48)) (hb : (T n 1 48).Broadcasts (T n 16 48))
    (hc : Shape.Concatenates [T n 16 80, T n 16 48] (T n 16 128) 2) (r : Fin n) (i : Fin 16) (d : Fin 128)
    (u c s : Fin 80 → EReal) (ht : ∀ d, t (ix3 r i d) = Rows.rope u c s d) :
    head3 t mk hm h0 hb hc (ix3 r i d) = Rows.head u c s (fun k => mk (ix2 r k)) d := by
  unfold head3 Rows.head
  rw [shapeCast_id]
  refine (cat2_apply _ _ hc rfl r i d).trans ?_
  split
  · exact ht _
  · exact (heads_apply (l := 16) _ hb r i _).trans (mid_apply mk hm r _)

/-- The marks, rows first. -/
theorem mark2_apply (g : IVec (V n) 32) (a b : BitVec 32) (hc : (V n).ShapeCasts (M n 1)) (hi : (M n 48).Iotas .tc 32 [1])
    (hb : (M n 1).Broadcasts (M n 48)) (ht : FTy.bf16.bits < FTy.f32.bits) (r : Fin n) (k : Fin 48) :
    truncf (F := Ideal) .bf16 (select (cmpi .eq (broadcastTo (M n 48) (shapeCast (M n 1) g hc) hb) (iota .tc (M n 48) 32 [1] hi))
      (broadcast (M n 48) (Scalar.ofBits .f32 a)) (broadcast (M n 48) (Scalar.ofBits .f32 b))) ht (ix2 r k)
      = Rows.mark (Scalar.ofBits (F := Ideal) .f32 a) (Scalar.ofBits (F := Ideal) .f32 b) (g (ix1 r)) k := by
  unfold Rows.mark
  simp only [eq_comm (a := BitVec.ofNat 32 k.val)]
  refine Eq.trans ?_ (pick_apply (g (ix1 r)) (BitVec.ofNat 32 k.val) _ _)
  rw [← wcol_apply (m := 48) g hc hb r k]
  generalize broadcastTo (M n 48) (shapeCast (M n 1) g hc) hb = x
  pointwise

end Cert.VRows
-- ==== Proof.QRefRows.lean ====
module

public import proofs.«01_k».proof.Proof.Gen.QkvReferenceIdeal.Value
public import proofs.«01_k».proof.Proof.Q3Rows

@[expose] public section

set_option maxRecDepth 16384

noncomputable section

namespace Cert.QRefRows

open Cert.QkvReferenceIdeal Cert.QkvReferenceIdeal.Gen Cert.QkvReferenceIdeal.Value Idealize.ShloMosaic

/-! The projections' reference results at an index, as the row functions of Proof/Rows.lean and Proof/QVRows.lean. -/

/-- The normalised row. -/
def nrow (a0 : Vec Ideal S2048x1280 .bf16) (a1 : Vec Ideal S1280 .f32) (r : Fin 2048) : Fin 1280 → EReal :=
  Rows.rms (fun j => a0 (ix2 r j)) fun j => a1 (ix1 j)

/-- The row's projection. -/
def prow (a0 : Vec Ideal S2048x1280 .bf16) (a1 : Vec Ideal S1280 .f32) (a2 : Vec Ideal S1280x3840 .fp8e4m3)
    (a3 a4 : Vec Ideal S3840 .f32) (r : Fin 2048) : Fin 3840 → EReal :=
  Rows.lin (nrow a0 a1 r) (fun x j => a2 (ix2 x j)) (fun j => a3 (ix1 j)) fun j => a4 (ix1 j)

/-- The normalised row's entry. -/
theorem pay5_apply (a0 : Vec Ideal S2048x1280 .bf16) (a1 : Vec Ideal S1280 .f32) (r : Fin 2048) (j : Fin 1280) :
    k0_pay5 a0 a1 (ix2 r j) = nrow a0 a1 r j := by
  have e := VRows.rms_apply (extf .f32 a0 bitsLt_bf16_f32 : FVec Ideal S2048x1280 .f32)
    (shapeCast S1x1280 a1 shapeCasts_S1280_S1x1280) reduces_S2048x1280_S2048
    shapeCasts_S2048_S2048x1 broadcasts_S2048x1_S2048x1280 broadcasts_S1x1280_S2048x1280 r j
  simp only [VRows.row_apply] at e
  exact e

/-- The scales. -/
theorem pay6_apply (a0 : Vec Ideal S2048x1280 .bf16) (a1 : Vec Ideal S1280 .f32) (r : Fin 2048) :
    k0_pay6 a0 a1 (ix1 r) = Rows.qscale (nrow a0 a1 r) :=
  (VRows.scale1_apply (k0_pay5 a0 a1) reduces_S2048x1280_S2048 r).trans
    (congrArg Rows.qscale (funext fun j => pay5_apply a0 a1 r j))

/-- The codes. -/
theorem pay7_apply (a0 : Vec Ideal S2048x1280 .bf16) (a1 : Vec Ideal S1280 .f32) (r : Fin 2048) (j : Fin 1280) :
    k0_pay7 a0 a1 (ix2 r j) = Rows.qcode (nrow a0 a1 r) j :=
  (VRows.codes_apply (k0_pay5 a0 a1) (shapeCast S2048x1 (k0_pay6 a0 a1) shapeCasts_S2048_S2048x1)
    broadcasts_S2048x1_S2048x1280 r ((VRows.col_apply _ _ r).trans
      (VRows.scale1_apply (k0_pay5 a0 a1) reduces_S2048x1280_S2048 r)) j).trans
    (congrArg (Rows.qcode · j) (funext fun j => pay5_apply a0 a1 r j))

/-- Some of the projection's columns. -/
def cols (o : ℕ) (hw : S1280x3840.Slices ![0, o] S1280x1280) (hv : S3840.Slices ![o] S1280)
    (a0 : Vec Ideal S2048x1280 .bf16) (a1 : Vec Ideal S1280 .f32) (a2 : Vec Ideal S1280x3840 .fp8e4m3)
    (a3 a4 : Vec Ideal S3840 .f32) : FVec Ideal S2048x1280 .f32 :=
  VRows.lin (k0_pay7 a0 a1) (shapeCast S2048x1 (k0_pay6 a0 a1) shapeCasts_S2048_S2048x1)
    (extractStridedSlice S1280x1280 ![0, o] a2 hw)
    (shapeCast S1x1280 (extractStridedSlice S1280 ![o] a3 hv) shapeCasts_S1280_S1x1280)
    (shapeCast S1x1280 (extractStridedSlice S1280 ![o] a4 hv) shapeCasts_S1280_S1x1280)
    broadcasts_S2048x1_S2048x1280 broadcasts_S1x1280_S2048x1280

/-- Their entry. -/
theorem cols_apply (o : ℕ) (ho : o + 1280 ≤ 3840) (hw : S1280x3840.Slices ![0, o] S1280x1280) (hv : S3840.Slices ![o] S1280)
    (a0 : Vec Ideal S2048x1280 .bf16) (a1 : Vec Ideal S1280 .f32) (a2 : Vec Ideal S1280x3840 .fp8e4m3)
    (a3 a4 : Vec Ideal S3840 .f32) (r : Fin 2048) (j : Fin 1280) :
    cols o hw hv a0 a1 a2 a3 a4 (ix2 r j) = prow a0 a1 a2 a3 a4 r ⟨o + j.val, by omega⟩ := by
  refine (VRows.lin_apply _ _ _ _ _ broadcasts_S2048x1_S2048x1280 broadcasts_S1x1280_S2048x1280 r j (nrow a0 a1 r)
    (pay7_apply a0 a1 r) ((VRows.col_apply _ _ r).trans (pay6_apply a0 a1 r))).trans ?_
  simp only [VRows.row_apply]
  unfold prow Rows.lin
  dsimp only
  rw [VRows.sliceV_apply a3 hv ho j, VRows.sliceV_apply a4 hv ho j]
  simp only [VRows.slice1_apply a2 hw ho]

/-- The queries' rotated heads. -/
theorem pay11_apply (a0 : Vec Ideal S2048x1280 .bf16) (a1 : Vec Ideal S1280 .f32) (a2 : Vec Ideal S1280x3840 .fp8e4m3)
    (a3 a4 : Vec Ideal S3840 .f32) (a5 a6 : Vec Ideal S2048x80 .f32) (r : Fin 2048) (i : Fin 16) (d : Fin 80) :
    k0_pay11 (k0_pay8 a4) (k0_pay9 a0 a1 a2) (k0_pay10 a3) a5 a6 (ix3 r i d)
      = Rows.rope (fun e => prow a0 a1 a2 a3 a4 r ⟨80 * i.val + e.val, by omega⟩) (fun d => a5 (ix2 r d)) (fun d => a6 (ix2 r d)) d := by
  refine (VRows.rope3_apply (shapeCast S2048x16x80 (cols 0 slices_S1280x3840_o0_0_S1280x1280 slices_S3840_o0_S1280 a0 a1 a2 a3 a4)
    shapeCasts_S2048x1280_S2048x16x80) a5 a6 slices_S2048x16x80_o0_0_40_S2048x16x40 slices_S2048x16x80_o0_0_0_S2048x16x40
    concatenates_S2048x16x40_S2048x16x40_S2048x16x80_d2 shapeCasts_S2048x80_S2048x1x80 broadcasts_S2048x1x80_S2048x16x80 r i d).trans ?_
  refine congrArg (fun t => Rows.rope t _ _ d) (funext fun e => ?_)
  refine (VRows.split_apply _ shapeCasts_S2048x1280_S2048x16x80 r i e).trans ((cols_apply 0 (by omega) _ _ a0 a1 a2 a3 a4 r _).trans ?_)
  exact congrArg (prow a0 a1 a2 a3 a4 r) (Fin.ext (Nat.zero_add _))

/-- The keys' heads, not yet rotated. -/
theorem pay12_apply (a0 : Vec Ideal S2048x1280 .bf16) (a1 : Vec Ideal S1280 .f32) (a2 : Vec Ideal S1280x3840 .fp8e4m3)
    (a3 a4 : Vec Ideal S3840 .f32) (r : Fin 2048) (i : Fin 16) (e : Fin 80) :
    k0_pay12 (k0_pay6 a0 a1) (k0_pay7 a0 a1) a2 a3 a4 (ix3 r i e)
      = prow a0 a1 a2 a3 a4 r ⟨1280 + 80 * i.val + e.val, by omega⟩ := by
  refine (VRows.split_apply (cols 1280 slices_S1280x3840_o0_1280_S1280x1280 slices_S3840_o1280_S1280 a0 a1 a2 a3 a4)
    shapeCasts_S2048x1280_S2048x16x80 r i e).trans ((cols_apply 1280 (by omega) _ _ a0 a1 a2 a3 a4 r _).trans ?_)
  exact congrArg (prow a0 a1 a2 a3 a4 r) (Fin.ext (by show 1280 + (80 * i.val + e.val) = 1280 + 80 * i.val + e.val; omega))

/-- A head's channels with the queries' marks. -/
theorem pay16_apply (x : FVec Ideal S2048x16x80 .bf16) (a7 : Vec Ideal S2048 .i32) (r : Fin 2048) (i : Fin 16) (d : Fin 128)
    (u c s : Fin 80 → EReal) (hx : ∀ d, x (ix3 r i d) = Rows.rope u c s d) :
    k0_pay16 x a7 (ix3 r i d) = Rows.head u c s (Rows.mark (Scalar.ofBits (F := Ideal) .f32 0x00000000#32)
      (Scalar.ofBits (F := Ideal) .f32 0xF1800000#32) (a7 (ix1 r))) d :=
  (VRows.head3_apply x (truncf (F := Ideal) .bf16 (select (k0_pay15 a7) (broadcast S2048x48 (Scalar.ofBits .f32 0x00000000#32))
      (broadcast S2048x48 (Scalar.ofBits .f32 0xF1800000#32))) bitsLt_bf16_f32)
    shapeCasts_S2048x48_S2048x1x48 shapeCasts_S2048x1x48_S2048x1x48 broadcasts_S2048x1x48_S2048x16x48
    concatenates_S2048x16x80_S2048x16x48_S2048x16x128_d2 r i d u c s hx).trans
    (congrArg (fun mk => Rows.head u c s mk d) (funext fun k => VRows.mark2_apply a7 0x00000000#32 0xF1800000#32
      shapeCasts_S2048_S2048x1 iota_S2048x48_d1_w32 broadcasts_S2048x1_S2048x48 bitsLt_bf16_f32 r k))

/-- A head's channels rotated, with the keys' marks. -/
theorem pay17_apply (x : FVec Ideal S2048x16x80 .f32) (a5 a6 : Vec Ideal S2048x80 .f32) (a7 : Vec Ideal S2048 .i32)
    (y : FVec Ideal S2048x16x80 .f32) (r : Fin 2048) (i : Fin 16) (d : Fin 128) (u : Fin 80 → EReal)
    (hx : ∀ d, addf (mulf x (broadcastTo S2048x16x80 (shapeCast S2048x1x80 a5 shapeCasts_S2048x80_S2048x1x80) broadcasts_S2048x1x80_S2048x16x80))
      (mulf y (broadcastTo S2048x16x80 (shapeCast S2048x1x80 a6 shapeCasts_S2048x80_S2048x1x80) broadcasts_S2048x1x80_S2048x16x80)) (ix3 r i d)
        = Rows.rope u (fun d => a5 (ix2 r d)) (fun d => a6 (ix2 r d)) d) :
    k0_pay17 x a5 a6 y a7 (ix3 r i d) = Rows.head u (fun d => a5 (ix2 r d)) (fun d => a6 (ix2 r d))
      (Rows.mark (Scalar.ofBits (F := Ideal) .f32 0x3F800000#32) (Scalar.ofBits (F := Ideal) .f32 0x00000000#32) (a7 (ix1 r))) d :=
  (VRows.head3_apply (truncf (F := Ideal) .bf16 (addf (mulf x (broadcastTo S2048x16x80 (shapeCast S2048x1x80 a5 shapeCasts_S2048x80_S2048x1x80) broadcasts_S2048x1x80_S2048x16x80))
      (mulf y (broadcastTo S2048x16x80 (shapeCast S2048x1x80 a6 shapeCasts_S2048x80_S2048x1x80) broadcasts_S2048x1x80_S2048x16x80))) bitsLt_bf16_f32)
    (truncf (F := Ideal) .bf16 (select (k0_pay15 a7) (broadcast S2048x48 (Scalar.ofBits .f32 0x3F800000#32))
      (broadcast S2048x48 (Scalar.ofBits .f32 0x00000000#32))) bitsLt_bf16_f32)
    shapeCasts_S2048x48_S2048x1x48 shapeCasts_S2048x1x48_S2048x1x48 broadcasts_S2048x1x48_S2048x16x48
    concatenates_S2048x16x80_S2048x16x48_S2048x16x128_d2 r i d u _ _ hx).trans
    (congrArg (fun mk => Rows.head u _ _ mk d) (funext fun k => VRows.mark2_apply a7 0x3F800000#32 0x00000000#32
      shapeCasts_S2048_S2048x1 iota_S2048x48_d1_w32 broadcasts_S2048x1_S2048x48 bitsLt_bf16_f32 r k))

/-- The heads as columns, transposed. -/
theorem pay2_apply (x : FVec Ideal S2048x16x128 .bf16) (j r : Fin 2048) :
    k0_pay2 x (ix2 j r) = x (ix3 r ⟨j.val / 128, by omega⟩ ⟨j.val % 128, by omega⟩) :=
  (VRows.tr_apply (shapeCast S2048x2048 x shapeCasts_S2048x16x128_S2048x2048) transposes_S2048x2048_p1_0_S2048x2048 r j).trans
    (VRows.join_apply x shapeCasts_S2048x16x128_S2048x2048 r j)

/-- The heads as columns. -/
theorem pay3_apply (x : FVec Ideal S2048x16x128 .bf16) (r j : Fin 2048) :
    k0_pay3 x (ix2 r j) = x (ix3 r ⟨j.val / 128, by omega⟩ ⟨j.val % 128, by omega⟩) :=
  VRows.join_apply x shapeCasts_S2048x16x128_S2048x2048 r j

/-- The values transposed. -/
theorem pay4_apply (x : FVec Ideal S2048x1280 .bf16) (j : Fin 1280) (r : Fin 2048) : k0_pay4 x (ix2 j r) = x (ix2 r j) :=
  VRows.tr_apply x transposes_S2048x1280_p1_0_S1280x2048 r j

/-- The values. -/
theorem pay14_apply (a0 : Vec Ideal S2048x1280 .bf16) (a1 : Vec Ideal S1280 .f32) (a2 : Vec Ideal S1280x3840 .fp8e4m3)
    (a3 a4 : Vec Ideal S3840 .f32) (r : Fin 2048) (j : Fin 1280) :
    k0_pay14 (k0_pay6 a0 a1) (k0_pay7 a0 a1) a2 a3 a4 (ix2 r j) = Rows.vrow (prow a0 a1 a2 a3 a4 r) j :=
  cols_apply 2560 (by omega) slices_S1280x3840_o0_2560_S1280x1280 slices_S3840_o2560_S1280 a0 a1 a2 a3 a4 r j

/-- The keys' channels before rotation and their swapped halves, rotated. -/
theorem keys_apply (a0 : Vec Ideal S2048x1280 .bf16) (a1 : Vec Ideal S1280 .f32) (a2 : Vec Ideal S1280x3840 .fp8e4m3)
    (a3 a4 : Vec Ideal S3840 .f32) (a5 a6 : Vec Ideal S2048x80 .f32) (r : Fin 2048) (i : Fin 16) (d : Fin 80) :
    addf (mulf (k0_pay12 (k0_pay6 a0 a1) (k0_pay7 a0 a1) a2 a3 a4) (broadcastTo S2048x16x80 (shapeCast S2048x1x80 a5 shapeCasts_S2048x80_S2048x1x80) broadcasts_S2048x1x80_S2048x16x80))
      (mulf (k0_pay13 (k0_pay6 a0 a1) (k0_pay7 a0 a1) a2 a3 a4) (broadcastTo S2048x16x80 (shapeCast S2048x1x80 a6 shapeCasts_S2048x80_S2048x1x80) broadcasts_S2048x1x80_S2048x16x80)) (ix3 r i d)
      = Rows.rope (fun e => prow a0 a1 a2 a3 a4 r ⟨1280 + 80 * i.val + e.val, by omega⟩) (fun d => a5 (ix2 r d)) (fun d => a6 (ix2 r d)) d :=
  (VRows.rope3_apply (k0_pay12 (k0_pay6 a0 a1) (k0_pay7 a0 a1) a2 a3 a4) a5 a6 slices_S2048x16x80_o0_0_40_S2048x16x40
    slices_S2048x16x80_o0_0_0_S2048x16x40 concatenates_S2048x16x40_S2048x16x40_S2048x16x80_d2 shapeCasts_S2048x80_S2048x1x80
    broadcasts_S2048x1x80_S2048x16x80 r i d).trans
    (congrArg (fun t => Rows.rope t _ _ d) (funext fun e => pay12_apply a0 a1 a2 a3 a4 r i e))

/-- The scales as the results read them. -/
theorem pay18_eq (a0 : Vec Ideal S2048x1280 .bf16) (a1 : Vec Ideal S1280 .f32) (a2 : Vec Ideal S1280x3840 .fp8e4m3)
    (a3 a4 : Vec Ideal S3840 .f32) (a5 a6 : Vec Ideal S2048x80 .f32) (a7 : Vec Ideal S2048 .i32) :
    k0_pay18 a0 a1 a2 a3 a4 a5 a6 a7 = k0_pay6 a0 a1 := by
  unfold k0_pay18
  rw [View.ld_unit_zero (S := S2048x1280) hz0 _ a0, View.ld_unit_zero (S := S1280) hz1 _ a1]

/-- The codes as the results read them. -/
theorem pay19_eq (a0 : Vec Ideal S2048x1280 .bf16) (a1 : Vec Ideal S1280 .f32) (a2 : Vec Ideal S1280x3840 .fp8e4m3)
    (a3 a4 : Vec Ideal S3840 .f32) (a5 a6 : Vec Ideal S2048x80 .f32) (a7 : Vec Ideal S2048 .i32) :
    k0_pay19 a0 a1 a2 a3 a4 a5 a6 a7 = k0_pay7 a0 a1 := by
  unfold k0_pay19
  rw [View.ld_unit_zero (S := S2048x1280) hz0 _ a0, View.ld_unit_zero (S := S1280) hz1 _ a1]

/-- The codes' array. -/
theorem G8_apply (a0 : Vec Ideal S2048x1280 .bf16) (a1 : Vec Ideal S1280 .f32) (a2 : Vec Ideal S1280x3840 .fp8e4m3)
    (a3 a4 : Vec Ideal S3840 .f32) (a5 a6 : Vec Ideal S2048x80 .f32) (a7 : Vec Ideal S2048 .i32) (r : Fin 2048) (j : Fin 1280) :
    G8 a0 a1 a2 a3 a4 a5 a6 a7 (ix2 r j) = Rows.qcode (nrow a0 a1 r) j :=
  (congrFun (pay19_eq a0 a1 a2 a3 a4 a5 a6 a7) (ix2 r j)).trans (pay7_apply a0 a1 r j)

/-- The scales' array. -/
theorem G9_apply (a0 : Vec Ideal S2048x1280 .bf16) (a1 : Vec Ideal S1280 .f32) (a2 : Vec Ideal S1280x3840 .fp8e4m3)
    (a3 a4 : Vec Ideal S3840 .f32) (a5 a6 : Vec Ideal S2048x80 .f32) (a7 : Vec Ideal S2048 .i32) (r : Fin 2048) :
    G9 a0 a1 a2 a3 a4 a5 a6 a7 (ix2 0 r) = Rows.qscale (nrow a0 a1 r) := by
  unfold G9
  rw [pay18_eq]
  exact (VRows.row_apply (k0_pay6 a0 a1) shapeCasts_S2048_S1x2048 r).trans (pay6_apply a0 a1 r)

/-- The queries' array. -/
theorem G10_apply (a0 : Vec Ideal S2048x1280 .bf16) (a1 : Vec Ideal S1280 .f32) (a2 : Vec Ideal S1280x3840 .fp8e4m3)
    (a3 a4 : Vec Ideal S3840 .f32) (a5 a6 : Vec Ideal S2048x80 .f32) (a7 : Vec Ideal S2048 .i32) (j r : Fin 2048) :
    G10 a0 a1 a2 a3 a4 a5 a6 a7 (ix2 j r)
      = Rows.qrow (prow a0 a1 a2 a3 a4 r) (fun d => a5 (ix2 r d)) (fun d => a6 (ix2 r d)) (a7 (ix1 r)) j :=
  (pay2_apply _ j r).trans (pay16_apply _ a7 r _ _ _ _ _ (pay11_apply a0 a1 a2 a3 a4 a5 a6 r _))

/-- The keys' array. -/
theorem G11_apply (a0 : Vec Ideal S2048x1280 .bf16) (a1 : Vec Ideal S1280 .f32) (a2 : Vec Ideal S1280x3840 .fp8e4m3)
    (a3 a4 : Vec Ideal S3840 .f32) (a5 a6 : Vec Ideal S2048x80 .f32) (a7 : Vec Ideal S2048 .i32) (r j : Fin 2048) :
    G11 a0 a1 a2 a3 a4 a5 a6 a7 (ix2 r j)
      = Rows.krow (prow a0 a1 a2 a3 a4 r) (fun d => a5 (ix2 r d)) (fun d => a6 (ix2 r d)) (a7 (ix1 r)) j := by
  unfold G11
  rw [pay18_eq, pay19_eq]
  exact (pay3_apply _ r j).trans (pay17_apply _ a5 a6 a7 _ r _ _ _ (keys_apply a0 a1 a2 a3 a4 a5 a6 r _))

/-- The values' array. -/
theorem G12_apply (a0 : Vec Ideal S2048x1280 .bf16) (a1 : Vec Ideal S1280 .f32) (a2 : Vec Ideal S1280x3840 .fp8e4m3)
    (a3 a4 : Vec Ideal S3840 .f32) (a5 a6 : Vec Ideal S2048x80 .f32) (a7 : Vec Ideal S2048 .i32) (j : Fin 1280) (r : Fin 2048) :
    G12 a0 a1 a2 a3 a4 a5 a6 a7 (ix2 j r) = Rows.vrow (prow a0 a1 a2 a3 a4 r) j := by
  unfold G12
  rw [pay18_eq, pay19_eq]
  exact (pay4_apply _ j r).trans (pay14_apply a0 a1 a2 a3 a4 r j)

end Cert.QRefRows
-- ==== Proof.QArrays.lean ====
module

public import proofs.«01_k».proof.Proof.QKRows
public import proofs.«01_k».proof.Proof.QRefRows
public import Idealize.ShloMosaic.Lib.Pipeline.ValueKit

@[expose] public section

set_option maxRecDepth 16384

noncomputable section

namespace Cert.QArrays

open Cert.QkvKernelIdeal Cert.QkvKernelIdeal.Gen Cert.QPieces Cert.QKRows Idealize.ShloMosaic Idealize.ShloMosaic.TcCoe

/-! The projections' result arrays after the run are the reference's functions of the argument arrays. -/

variable (m : (ℓ : Loc nD τ sig) → Buf (Elt Ideal) ℓ)

/-- Each window's block at a point: the point's rows or columns, or the whole array. -/
theorem idx : ∀ t : Fin grid0.N, win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![t.val, 0] ∧ win0_7.index t = ![0, t.val] ∧ win0_8.index t = ![t.val, 0] ∧ win0_9.index t = ![0, t.val] ∧ win0_10.index t = ![0, t.val] ∧ win0_11.index t = ![t.val, 0] ∧ win0_12.index t = ![0, t.val] := by
  decide +kernel

/-- The array row that row `r` of point `t`'s block is. -/
def row (t : Fin cfg0.N) (r : Fin 256) : Fin 2048 := ⟨t.val * 256 + r.val, by have : t.val < 8 := t.isLt; omega⟩

variable (c : Dev nD) (t : Fin cfg0.N)

/-- Row block `t` of argument 0. -/
theorem blk0 (r : Fin 256) (j : Fin 1280) : iblk m c 0 t (ix2 r j) = m ((c : Thread nD τ).loc main_arg0) (ix2 (row t r) j) := by
  unfold row
  blk_ext [iblk, V_main_arg0, idx t]

/-- Row block `t` of argument 5. -/
theorem blk5 (r : Fin 256) (j : Fin 80) : iblk m c 5 t (ix2 r j) = m ((c : Thread nD τ).loc main_arg5) (ix2 (row t r) j) := by
  unfold row
  blk_ext [iblk, V_main_arg5, idx t]

/-- Row block `t` of argument 6. -/
theorem blk6 (r : Fin 256) (j : Fin 80) : iblk m c 6 t (ix2 r j) = m ((c : Thread nD τ).loc main_arg6) (ix2 (row t r) j) := by
  unfold row
  blk_ext [iblk, V_main_arg6, idx t]

/-- Argument 2, whole. -/
theorem blk2 (x : Fin 1280) (j : Fin 3840) : iblk m c 2 t (ix2 x j) = m ((c : Thread nD τ).loc main_arg2) (ix2 x j) := by
  blk_ext [iblk, V_main_arg2, idx t]

/-- Argument 1, whole, as one row. -/
theorem blk1 (j : Fin 1280) : iblk m c 1 t (ix2 0 j) = m ((c : Thread nD τ).loc main_arg1) (ix1 j) := by
  blk_ext! [iblk, V, idx t]

/-- Argument 3, whole, as one row. -/
theorem blk3 (j : Fin 3840) : iblk m c 3 t (ix2 0 j) = m ((c : Thread nD τ).loc main_arg3) (ix1 j) := by
  blk_ext! [iblk, V, idx t]

/-- Argument 4, whole, as one row. -/
theorem blk4 (j : Fin 3840) : iblk m c 4 t (ix2 0 j) = m ((c : Thread nD τ).loc main_arg4) (ix1 j) := by
  blk_ext! [iblk, V, idx t]

/-- Column block `t` of argument 7 as one row. -/
theorem blk7 (r : Fin 256) : iblk m c 7 t (ix2 0 r) = m ((c : Thread nD τ).loc main_arg7) (ix1 (row t r)) := by
  unfold row
  blk_ext! [iblk, V, idx t]

/-- The normalised row of a point's block. -/
def v (r : Fin 256) : Fin 1280 → EReal := QRefRows.nrow (m ((c : Thread nD τ).loc main_arg0)) (m ((c : Thread nD τ).loc main_arg1)) (row t r)

/-- The codes a point computes. -/
theorem codes (r : Fin 256) (j : Fin 1280) : k0_pay56 (iblk m c 0 t) (iblk m c 1 t) (ix2 r j) = Rows.qcode (v m c t r) j := by
  rw [pay56_apply]
  simp only [blk0, blk1]
  rfl

/-- The scales a point computes. -/
theorem scales (r : Fin 256) : k0_pay57 (iblk m c 0 t) (iblk m c 1 t) (ix2 0 r) = Rows.qscale (v m c t r) := by
  rw [pay57_apply]
  simp only [blk0, blk1]
  rfl

/-- The scratch holds the weights transposed, and the scales and the biases repeated. -/
structure Held (wt : Vec Ideal S3840x1280 .fp8e4m3) (st bt : Vec Ideal S3840x128 .f32) : Prop where
  /-- The weights. -/
  w : ∀ (j : Fin 3840) (x : Fin 1280), wt (ix2 j x) = m ((c : Thread nD τ).loc main_arg2) (ix2 x j)
  /-- The scales. -/
  s : ∀ (j : Fin 3840) (y : Fin 128), st (ix2 j y) = m ((c : Thread nD τ).loc main_arg3) (ix1 j)
  /-- The biases. -/
  b : ∀ (j : Fin 3840) (y : Fin 128), bt (ix2 j y) = m ((c : Thread nD τ).loc main_arg4) (ix1 j)

/-- The first point fills the scratch so. -/
theorem held_first : Held m c (View.canon (wL (iblk m c 2 t))) (View.canon (cL (iblk m c 3 t))) (View.canon (cL (iblk m c 4 t))) :=
  ⟨fun j x => (wv_apply _ j x).trans (blk2 m c t x j), fun j y => (cv_apply _ j y).trans (blk3 m c t j),
    fun j y => (cv_apply _ j y).trans (blk4 m c t j)⟩

/-- The scratch after the first point. -/
theorem scr_first (h0 : t.val % 8 = 0) : (outsAt0 m c t.val t.isLt).2.2.2.2.2.1 = View.canon (wL (iblk m c 2 t))
    ∧ (outsAt0 m c t.val t.isLt).2.2.2.2.2.2.1 = View.canon (cL (iblk m c 3 t))
    ∧ (outsAt0 m c t.val t.isLt).2.2.2.2.2.2.2 = View.canon (cL (iblk m c 4 t)) := by
  rw [outsAt0_A m c t h0]
  dsimp only
  exact ⟨sout0_eq c t (iblk m c 0 t) (iblk m c 1 t) (iblk m c 2 t) (iblk m c 3 t) (iblk m c 4 t) (iblk m c 5 t) (iblk m c 6 t) (iblk m c 7 t) _, sout1_eq c t (iblk m c 0 t) (iblk m c 1 t) (iblk m c 2 t) (iblk m c 3 t) (iblk m c 4 t) (iblk m c 5 t) (iblk m c 6 t) (iblk m c 7 t) _, sout2_eq c t (iblk m c 0 t) (iblk m c 1 t) (iblk m c 2 t) (iblk m c 3 t) (iblk m c 4 t) (iblk m c 5 t) (iblk m c 6 t) (iblk m c 7 t) _⟩

/-- A later point leaves the scratch as it was. -/
theorem scr_later (h0 : ¬t.val % 8 = 0) :
    (outsAt0 m c t.val t.isLt).2.2.2.2.2 = (outsAt0 m c (t.val - 1) (Nat.lt_of_le_of_lt (Nat.sub_le _ _) t.isLt)).2.2.2.2.2 := by
  rw [outsAt0_B m c t h0]
  dsimp only
  unfold sout0_B_0 sout0_B_1 sout0_B_2
  rfl

/-- After every point it still does. -/
theorem held : ∀ (n : ℕ) (hn : n < cfg0.N), Held m c (outsAt0 m c n hn).2.2.2.2.2.1 (outsAt0 m c n hn).2.2.2.2.2.2.1
    (outsAt0 m c n hn).2.2.2.2.2.2.2
  | 0, hn => by
    obtain ⟨e0, e1, e2⟩ := scr_first m c ⟨0, hn⟩ (Nat.zero_mod _)
    rw [e0, e1, e2]
    exact held_first m c ⟨0, hn⟩
  | n + 1, hn => by
    have hn8 : n + 1 < 8 := hn
    have e := scr_later m c ⟨n + 1, hn⟩ (by show ¬ (n + 1) % 8 = 0; omega)
    rw [e]
    exact held n _

/-- The queries a point computes from such a scratch. -/
theorem queries (wt : Vec Ideal S3840x1280 .fp8e4m3) (st bt : Vec Ideal S3840x128 .f32) (h : Held m c wt st bt) (r : Fin 256) (j : Fin 2048) :
    View.canon (qL (k0_pay56 (iblk m c 0 t) (iblk m c 1 t)) (k0_pay57 (iblk m c 0 t) (iblk m c 1 t)) (k0_pay58 (iblk m c 5 t)) (k0_pay59 (iblk m c 6 t)) (k0_pay61 (iblk m c 7 t)) wt st bt) (ix2 j r) = Rows.qrow (QRefRows.prow (m ((c : Thread nD τ).loc main_arg0)) (m ((c : Thread nD τ).loc main_arg1)) (m ((c : Thread nD τ).loc main_arg2)) (m ((c : Thread nD τ).loc main_arg3)) (m ((c : Thread nD τ).loc main_arg4)) (row t r)) (fun d => m ((c : Thread nD τ).loc main_arg5) (ix2 (row t r) d)) (fun d => m ((c : Thread nD τ).loc main_arg6) (ix2 (row t r) d)) (m ((c : Thread nD τ).loc main_arg7) (ix1 (row t r))) j := by
  refine (qv_apply _ _ _ _ _ wt st bt (v m c t) (fun x j => (m ((c : Thread nD τ).loc main_arg2)) (ix2 x j)) (fun j => (m ((c : Thread nD τ).loc main_arg3)) (ix1 j)) (fun j => (m ((c : Thread nD τ).loc main_arg4)) (ix1 j))
    (fun r => iblk m c 7 t (ix2 0 r)) (codes m c t) (scales m c t) h.w h.s h.b (fun k r => pay61_apply _ k r) j r).trans ?_
  simp only [pay58_apply, pay59_apply, blk5, blk6, blk7]
  rfl

/-- The keys a point computes from such a scratch. -/
theorem keys (wt : Vec Ideal S3840x1280 .fp8e4m3) (st bt : Vec Ideal S3840x128 .f32) (h : Held m c wt st bt) (r : Fin 256) (j : Fin 2048) :
    View.canon (kL (k0_pay56 (iblk m c 0 t) (iblk m c 1 t)) (k0_pay57 (iblk m c 0 t) (iblk m c 1 t)) (k0_pay58 (iblk m c 5 t)) (k0_pay59 (iblk m c 6 t)) (k0_pay62 (iblk m c 7 t)) wt st bt) (ix2 r j) = Rows.krow (QRefRows.prow (m ((c : Thread nD τ).loc main_arg0)) (m ((c : Thread nD τ).loc main_arg1)) (m ((c : Thread nD τ).loc main_arg2)) (m ((c : Thread nD τ).loc main_arg3)) (m ((c : Thread nD τ).loc main_arg4)) (row t r)) (fun d => m ((c : Thread nD τ).loc main_arg5) (ix2 (row t r) d)) (fun d => m ((c : Thread nD τ).loc main_arg6) (ix2 (row t r) d)) (m ((c : Thread nD τ).loc main_arg7) (ix1 (row t r))) j := by
  refine (kv_apply _ _ _ _ _ wt st bt (v m c t) (fun x j => (m ((c : Thread nD τ).loc main_arg2)) (ix2 x j)) (fun j => (m ((c : Thread nD τ).loc main_arg3)) (ix1 j)) (fun j => (m ((c : Thread nD τ).loc main_arg4)) (ix1 j))
    (fun r => iblk m c 7 t (ix2 0 r)) (codes m c t) (scales m c t) h.w h.s h.b (fun k r => pay62_apply _ k r) r j).trans ?_
  simp only [pay58_apply, pay59_apply, blk5, blk6, blk7]
  rfl

/-- The values a point computes from such a scratch. -/
theorem values (wt : Vec Ideal S3840x1280 .fp8e4m3) (st bt : Vec Ideal S3840x128 .f32) (h : Held m c wt st bt) (r : Fin 256) (j : Fin 1280) :
    View.canon (vL (k0_pay56 (iblk m c 0 t) (iblk m c 1 t)) (k0_pay57 (iblk m c 0 t) (iblk m c 1 t)) wt st bt) (ix2 j r) = Rows.vrow (QRefRows.prow (m ((c : Thread nD τ).loc main_arg0)) (m ((c : Thread nD τ).loc main_arg1)) (m ((c : Thread nD τ).loc main_arg2)) (m ((c : Thread nD τ).loc main_arg3)) (m ((c : Thread nD τ).loc main_arg4)) (row t r)) j := by
  exact vv_apply _ _ wt st bt (v m c t) (fun x j => (m ((c : Thread nD τ).loc main_arg2)) (ix2 x j)) (fun j => (m ((c : Thread nD τ).loc main_arg3)) (ix1 j)) (fun j => (m ((c : Thread nD τ).loc main_arg4)) (ix1 j))
    (codes m c t) (scales m c t) h.w h.s h.b j r

/-- Where the block's entries lie in the array of window 8. -/
theorem emb8 (r : Fin 256) (j : Fin 1280) : ((cfg0.win 8).blk t).view.emb (ix2 r j) = ix2 (row t r) j := by
  unfold row
  blk_ext [idx t]

/-- The codes: what the first point leaves in the block. -/
theorem first8 (h0 : t.val % 8 = 0) : (outsAt0 m c t.val t.isLt).1 = k0_pay56 (iblk m c 0 t) (iblk m c 1 t) := by
  rw [outsAt0_A m c t h0]
  dsimp only
  exact out8A_eq c t (iblk m c 0 t) (iblk m c 1 t) (iblk m c 2 t) (iblk m c 3 t) (iblk m c 4 t) (iblk m c 5 t) (iblk m c 6 t) (iblk m c 7 t) _

/-- The codes: what a later point leaves in the block. -/
theorem later8 (h0 : ¬t.val % 8 = 0) : (outsAt0 m c t.val t.isLt).1 = k0_pay56 (iblk m c 0 t) (iblk m c 1 t) := by
  rw [outsAt0_B m c t h0]
  dsimp only
  exact out8B_eq c t (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 _

/-- The codes: what a point leaves in the block. -/
theorem after8 (r : Fin 256) (j : Fin 1280) : (dats m 0 c).after 8 t (ix2 r j) = Cert.QkvReferenceIdeal.Value.G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (row t r) j) := by
  rw [after0_8, QRefRows.G8_apply]
  by_cases h0 : t.val % 8 = 0
  · rw [first8 m c t h0]
    exact codes m c t r j
  · rw [later8 m c t h0]
    exact codes m c t r j

/-- The codes after the run. -/
theorem final8 : (dats m 0 c).arrAt 8 cfg0.N = Cert.QkvReferenceIdeal.Value.G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  change S256x1280.Idx at y
  obtain ⟨r, j, rfl⟩ : ∃ r j, y = ix2 r j := ⟨_, _, eq_ix2 y⟩
  rw [emb8]
  exact after8 m c t r j

/-- Where the block's entries lie in the array of window 9. -/
theorem emb9 (r : Fin 256) : ((cfg0.win 9).blk t).view.emb (ix2 0 r) = ix2 0 (row t r) := by
  unfold row
  blk_ext [idx t]

/-- The scales: what the first point leaves in the block. -/
theorem first9 (h0 : t.val % 8 = 0) : (outsAt0 m c t.val t.isLt).2.1 = k0_pay57 (iblk m c 0 t) (iblk m c 1 t) := by
  rw [outsAt0_A m c t h0]
  dsimp only
  exact out9A_eq c t (iblk m c 0 t) (iblk m c 1 t) (iblk m c 2 t) (iblk m c 3 t) (iblk m c 4 t) (iblk m c 5 t) (iblk m c 6 t) (iblk m c 7 t) _

/-- The scales: what a later point leaves in the block. -/
theorem later9 (h0 : ¬t.val % 8 = 0) : (outsAt0 m c t.val t.isLt).2.1 = k0_pay57 (iblk m c 0 t) (iblk m c 1 t) := by
  rw [outsAt0_B m c t h0]
  dsimp only
  exact out9B_eq c t (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 _

/-- The scales: what a point leaves in the block. -/
theorem after9 (r : Fin 256) : (dats m 0 c).after 9 t (ix2 0 r) = Cert.QkvReferenceIdeal.Value.G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 0 (row t r)) := by
  rw [after0_9, QRefRows.G9_apply]
  by_cases h0 : t.val % 8 = 0
  · rw [first9 m c t h0]
    exact scales m c t r
  · rw [later9 m c t h0]
    exact scales m c t r

/-- The scales after the run. -/
theorem final9 : (dats m 0 c).arrAt 9 cfg0.N = Cert.QkvReferenceIdeal.Value.G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t hf y => ?_
  change S1x256.Idx at y
  obtain ⟨r, rfl⟩ : ∃ r, y = ix2 0 r := ⟨y 1, (eq_ix2 y).trans (congrArg (ix2 · (y 1)) (Subsingleton.elim (α := Fin 1) _ _))⟩
  rw [emb9]
  exact after9 m c t r

/-- Where the block's entries lie in the array of window 10. -/
theorem emb10 (j : Fin 2048) (r : Fin 256) : ((cfg0.win 10).blk t).view.emb (ix2 j r) = ix2 j (row t r) := by
  unfold row
  blk_ext [idx t]

/-- The queries: what the first point leaves in the block. -/
theorem first10 (h0 : t.val % 8 = 0) : (outsAt0 m c t.val t.isLt).2.2.1 = View.canon (qL (k0_pay56 (iblk m c 0 t) (iblk m c 1 t)) (k0_pay57 (iblk m c 0 t) (iblk m c 1 t)) (k0_pay58 (iblk m c 5 t)) (k0_pay59 (iblk m c 6 t)) (k0_pay61 (iblk m c 7 t)) (View.canon (wL (iblk m c 2 t))) (View.canon (cL (iblk m c 3 t))) (View.canon (cL (iblk m c 4 t)))) := by
  rw [outsAt0_A m c t h0]
  dsimp only
  exact out10A_eq c t (iblk m c 0 t) (iblk m c 1 t) (iblk m c 2 t) (iblk m c 3 t) (iblk m c 4 t) (iblk m c 5 t) (iblk m c 6 t) (iblk m c 7 t) _

/-- The queries: what a later point leaves in the block. -/
theorem later10 (h0 : ¬t.val % 8 = 0) : (outsAt0 m c t.val t.isLt).2.2.1 = View.canon (qL (k0_pay56 (iblk m c 0 t) (iblk m c 1 t)) (k0_pay57 (iblk m c 0 t) (iblk m c 1 t)) (k0_pay58 (iblk m c 5 t)) (k0_pay59 (iblk m c 6 t)) (k0_pay61 (iblk m c 7 t)) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2) := by
  rw [outsAt0_B m c t h0]
  dsimp only
  exact out10B_eq c t (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 _

/-- The queries: what a point leaves in the block. -/
theorem after10 (r : Fin 256) (j : Fin 2048) : (dats m 0 c).after 10 t (ix2 j r) = Cert.QkvReferenceIdeal.Value.G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 j (row t r)) := by
  rw [after0_10, QRefRows.G10_apply]
  by_cases h0 : t.val % 8 = 0
  · rw [first10 m c t h0]
    exact queries m c t _ _ _ (held_first m c t) r j
  · rw [later10 m c t h0]
    exact queries m c t _ _ _ (held m c _ _) r j

/-- The queries after the run. -/
theorem final10 : (dats m 0 c).arrAt 10 cfg0.N = Cert.QkvReferenceIdeal.Value.G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t hf y => ?_
  change S2048x256.Idx at y
  obtain ⟨j, r, rfl⟩ : ∃ j r, y = ix2 j r := ⟨_, _, eq_ix2 y⟩
  rw [emb10]
  exact after10 m c t r j

/-- Where the block's entries lie in the array of window 11. -/
theorem emb11 (r : Fin 256) (j : Fin 2048) : ((cfg0.win 11).blk t).view.emb (ix2 r j) = ix2 (row t r) j := by
  unfold row
  blk_ext [idx t]

/-- The keys: what the first point leaves in the block. -/
theorem first11 (h0 : t.val % 8 = 0) : (outsAt0 m c t.val t.isLt).2.2.2.1 = View.canon (kL (k0_pay56 (iblk m c 0 t) (iblk m c 1 t)) (k0_pay57 (iblk m c 0 t) (iblk m c 1 t)) (k0_pay58 (iblk m c 5 t)) (k0_pay59 (iblk m c 6 t)) (k0_pay62 (iblk m c 7 t)) (View.canon (wL (iblk m c 2 t))) (View.canon (cL (iblk m c 3 t))) (View.canon (cL (iblk m c 4 t)))) := by
  rw [outsAt0_A m c t h0]
  dsimp only
  exact out11A_eq c t (iblk m c 0 t) (iblk m c 1 t) (iblk m c 2 t) (iblk m c 3 t) (iblk m c 4 t) (iblk m c 5 t) (iblk m c 6 t) (iblk m c 7 t) _

/-- The keys: what a later point leaves in the block. -/
theorem later11 (h0 : ¬t.val % 8 = 0) : (outsAt0 m c t.val t.isLt).2.2.2.1 = View.canon (kL (k0_pay56 (iblk m c 0 t) (iblk m c 1 t)) (k0_pay57 (iblk m c 0 t) (iblk m c 1 t)) (k0_pay58 (iblk m c 5 t)) (k0_pay59 (iblk m c 6 t)) (k0_pay62 (iblk m c 7 t)) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2) := by
  rw [outsAt0_B m c t h0]
  dsimp only
  exact out11B_eq c t (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 _

/-- The keys: what a point leaves in the block. -/
theorem after11 (r : Fin 256) (j : Fin 2048) : (dats m 0 c).after 11 t (ix2 r j) = Cert.QkvReferenceIdeal.Value.G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (row t r) j) := by
  rw [after0_11, QRefRows.G11_apply]
  by_cases h0 : t.val % 8 = 0
  · rw [first11 m c t h0]
    exact keys m c t _ _ _ (held_first m c t) r j
  · rw [later11 m c t h0]
    exact keys m c t _ _ _ (held m c _ _) r j

/-- The keys after the run. -/
theorem final11 : (dats m 0 c).arrAt 11 cfg0.N = Cert.QkvReferenceIdeal.Value.G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t hf y => ?_
  change S256x2048.Idx at y
  obtain ⟨r, j, rfl⟩ : ∃ r j, y = ix2 r j := ⟨_, _, eq_ix2 y⟩
  rw [emb11]
  exact after11 m c t r j

/-- Where the block's entries lie in the array of window 12. -/
theorem emb12 (j : Fin 1280) (r : Fin 256) : ((cfg0.win 12).blk t).view.emb (ix2 j r) = ix2 j (row t r) := by
  unfold row
  blk_ext [idx t]

/-- The values: what the first point leaves in the block. -/
theorem first12 (h0 : t.val % 8 = 0) : (outsAt0 m c t.val t.isLt).2.2.2.2.1 = View.canon (vL (k0_pay56 (iblk m c 0 t) (iblk m c 1 t)) (k0_pay57 (iblk m c 0 t) (iblk m c 1 t)) (View.canon (wL (iblk m c 2 t))) (View.canon (cL (iblk m c 3 t))) (View.canon (cL (iblk m c 4 t)))) := by
  rw [outsAt0_A m c t h0]
  dsimp only
  exact out12A_eq c t (iblk m c 0 t) (iblk m c 1 t) (iblk m c 2 t) (iblk m c 3 t) (iblk m c 4 t) (iblk m c 5 t) (iblk m c 6 t) (iblk m c 7 t) _

/-- The values: what a later point leaves in the block. -/
theorem later12 (h0 : ¬t.val % 8 = 0) : (outsAt0 m c t.val t.isLt).2.2.2.2.1 = View.canon (vL (k0_pay56 (iblk m c 0 t) (iblk m c 1 t)) (k0_pay57 (iblk m c 0 t) (iblk m c 1 t)) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2) := by
  rw [outsAt0_B m c t h0]
  dsimp only
  exact out12B_eq c t (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 _

/-- The values: what a point leaves in the block. -/
theorem after12 (r : Fin 256) (j : Fin 1280) : (dats m 0 c).after 12 t (ix2 j r) = Cert.QkvReferenceIdeal.Value.G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 j (row t r)) := by
  rw [after0_12, QRefRows.G12_apply]
  by_cases h0 : t.val % 8 = 0
  · rw [first12 m c t h0]
    exact values m c t _ _ _ (held_first m c t) r j
  · rw [later12 m c t h0]
    exact values m c t _ _ _ (held m c _ _) r j

/-- The values after the run. -/
theorem final12 : (dats m 0 c).arrAt 12 cfg0.N = Cert.QkvReferenceIdeal.Value.G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 12 _ (by decide +kernel) fun t hf y => ?_
  change S1280x256.Idx at y
  obtain ⟨j, r, rfl⟩ : ∃ j r, y = ix2 j r := ⟨_, _, eq_ix2 y⟩
  rw [emb12]
  exact after12 m c t r j

end Cert.QArrays
-- ==== Proof.WRows.lean ====
module

public import Idealize.ShloMosaic.Lib.Pointwise

@[expose] public section

noncomputable section

namespace Cert.WRows

open Idealize.ShloMosaic

/-! Attention of ONE query in one head, over the extended reals and with no shapes: what both programs compute for a query and
the 256 keys and values around it. -/

/-- The scores: the products with the keys, scaled. -/
def scores (q : Fin 128 → EReal) (k : Fin 256 → Fin 128 → EReal) (κ : Fin 256) : EReal :=
  (∑ d, k κ d * q d) * Ideal.ofBits FTy.f32 0x3E252B5C#32

/-- The largest score, rounded up. -/
def top (s : Fin 256 → EReal) : EReal :=
  Ideal.liftRound Int.ceil (Finset.fold max (Ideal.ofBits FTy.f32 0xFF800000#32) s Finset.univ)

/-- The keys' weights: two to the scores, less the top. -/
def weight (s : Fin 256 → EReal) (κ : Fin 256) : EReal := FloatOps.exp2 (F := Ideal) (φ := .f32) (s κ - top s)

/-- The weights' mean of one channel of the values. -/
def mean (p v : Fin 256 → EReal) : EReal := Ideal.div (∑ κ, v κ * p κ) (∑ κ, p κ)

/-- One channel of the attention. -/
def att (q : Fin 128 → EReal) (k : Fin 256 → Fin 128 → EReal) (v : Fin 256 → EReal) : EReal :=
  mean (weight (scores q k)) v

end Cert.WRows
-- ==== Proof.WPieces.lean ====
module

public import proofs.«01_k».proof.Proof.Gen.WinKernelIdeal.Value
public import proofs.«01_k».proof.Proof.VRows
public import proofs.«01_k».proof.Proof.WRows

@[expose] public section

set_option maxRecDepth 16384

noncomputable section

namespace Cert.WPieces

open Cert.WinKernelIdeal Cert.WinKernelIdeal.Gen Idealize.ShloMosaic Idealize.ShloMosaic.TcCoe

/-! What one grid point of the window attention leaves in its scratch array and in its output block: the stores, one piece per
head, each with its payload written as one expression. -/

/-- A load of a scratch after its stores, through a box. -/
theorem readCov_ld {sig : RefSig} {κ : Kind} {sp : Space} {s : Shape} {e : EltTy} (v : View sig κ sp s e)
    (L : List (View.Piece (Elt Ideal) s e)) (r : Rect s) :
    v.readCov L r.toLoadRect = View.ld (View.canon L) r := View.readCov_eq_canon' ..

/-- Some channels of the queries lie inside the block. -/
theorem qslice {o : ℕ} (h : o + 128 ≤ 2048) : S2048x128.Slices ![o, 0] S128x128 :=
  ⟨rfl, Fin.forall_fin_two.2 ⟨h, Nat.le_of_eq (Nat.zero_add 128)⟩⟩

/-- Two heads' queries, each beside zeros. -/
def qbd (o₀ o₁ : ℕ) (h₀ : o₀ + 128 ≤ 2048) (h₁ : o₁ + 128 ≤ 2048) (x0 : Vec Ideal S2048x128 .bf16) : FVec Ideal S256x256 .bf16 :=
  concatenate S256x256 0
    [⟨S128x256, concatenate S128x256 1 [⟨S128x128, extractStridedSlice S128x128 ![o₀, 0] x0 (qslice h₀)⟩,
      ⟨S128x128, broadcast S128x128 (Scalar.ofBits (F := Ideal) .bf16 0x0000#16)⟩] concatenates_S128x128_S128x128_S128x256_d1⟩,
    ⟨S128x256, concatenate S128x256 1 [⟨S128x128, broadcast S128x128 (Scalar.ofBits (F := Ideal) .bf16 0x0000#16)⟩,
      ⟨S128x128, extractStridedSlice S128x128 ![o₁, 0] x0 (qslice h₁)⟩] concatenates_S128x128_S128x128_S128x256_d1⟩]
    concatenates_S128x256_S128x256_S256x256_d0

/-- Two heads' scores. -/
def sK (k : FVec Ideal S256x256 .bf16) (q : FVec Ideal S256x256 .bf16) : FVec Ideal S256x256 .f32 :=
  mulf (matmul dot_S256x256_S256x256_S256x256_1_0_0_1_n_n none k q (constant S256x256 .f32 0x00000000#32))
    (broadcast S256x256 (Scalar.ofBits .f32 0x3E252B5C#32))

/-- Two heads' weights. -/
def pK (s : FVec Ideal S256x256 .f32) : FVec Ideal S256x256 .f32 :=
  exp2 (subf s (broadcastTo S256x256 (ceil (shapeCast S1x256 (multiReduction .maximumf [0] S256 s 0xFF800000#32
    reduces_S256x256_S256 (.inl rfl) rfl) shapeCasts_S256_S1x256)) broadcasts_S1x256_S256x256))

/-- One head's columns lie inside the two heads'. -/
theorem hslice {n o : ℕ} (h : o + 128 ≤ 256) : (VRows.M n 256).Slices ![0, o] (VRows.M n 128) :=
  ⟨rfl, Fin.forall_fin_two.2 ⟨Nat.le_of_eq (Nat.zero_add n), h⟩⟩

/-- One head's means of the values. -/
def oK (o : ℕ) (h : o + 128 ≤ 256) (p : FVec Ideal S256x256 .f32) (v : FVec Ideal S80x256 .bf16) : FVec Ideal S80x128 .f32 :=
  divf (matmul dot_S80x256_S256x128_S80x128_1_0_0_1_n_n none v
      (extractStridedSlice S256x128 ![0, o] (truncf .bf16 p bitsLt_bf16_f32) (hslice h)) (constant S80x128 .f32 0x00000000#32))
    (broadcastTo S80x128 (extractStridedSlice S1x128 ![0, o] (shapeCast S1x256 (multiReduction .add [0] S256 p 0x00000000#32
      reduces_S256x256_S256 (.inl rfl) rfl) shapeCasts_S256_S1x256) (hslice h)) broadcasts_S1x128_S80x128)

/-- One head's rows lie inside the scratch. -/
theorem orow {o : ℕ} (h : o + 80 ≤ 1280) : ∀ a, (![o, 0] : Fin 2 → ℕ) a + S80x128.size a ≤ S1280x128.size a :=
  Fin.forall_fin_two.2 ⟨h, Nat.le_of_eq (Nat.zero_add 128)⟩

/-- One head's store. -/
def oP (r o : ℕ) (hr : r + 80 ≤ 1280) (ho : o + 128 ≤ 256) (p : FVec Ideal S256x256 .f32) (v : FVec Ideal S80x256 .bf16) :
    View.Piece (Elt Ideal) S1280x128 .f32 :=
  ⟨Rect.unit ![r, 0] S80x128.size (orow hr), shapeCast S80x128 (oK o ho p v) shapeCasts_S80x128_S80x128⟩

section

variable (x0 : Vec Ideal S2048x128 .bf16) (x1 : Vec Ideal S2176x2048 .bf16) (x2 : Vec Ideal S1280x2176 .bf16)

/-- Two heads' weights, from the arrays. -/
def pH (o₀ o₁ : ℕ) (h₀ : o₀ + 128 ≤ 2048) (h₁ : o₁ + 128 ≤ 2048) (off : Fin 2 → ℕ)
    (hk : ∀ a, off a + S256x256.size a ≤ S2176x2048.size a) : FVec Ideal S256x256 .f32 :=
  pK (sK (View.ld (S := S2176x2048) x1 (Rect.unit off S256x256.size hk)) (qbd o₀ o₁ h₀ h₁ x0))

/-- One head's values. -/
def vH (off : Fin 2 → ℕ) (hv : ∀ a, off a + S80x256.size a ≤ S1280x2176.size a) : FVec Ideal S80x256 .bf16 :=
  View.ld (S := S1280x2176) x2 (Rect.unit off S80x256.size hv)

/-- The stores into the scratch, last first. -/
def oL (i : grid0.Coords) : List (View.Piece (Elt Ideal) S1280x128 .f32) :=
  [oP 1200 128 (by decide) (by decide)
      (pH x0 x1 1792 1920 (by decide) (by decide) (k0_off22 i) (k0_off22_inb i)) (vH x2 (k0_off24 i) (k0_off24_inb i)),
    oP 1120 0 (by decide) (by decide)
      (pH x0 x1 1792 1920 (by decide) (by decide) (k0_off22 i) (k0_off22_inb i)) (vH x2 (k0_off23 i) (k0_off23_inb i)),
    oP 1040 128 (by decide) (by decide)
      (pH x0 x1 1536 1664 (by decide) (by decide) (k0_off19 i) (k0_off19_inb i)) (vH x2 (k0_off21 i) (k0_off21_inb i)),
    oP 960 0 (by decide) (by decide)
      (pH x0 x1 1536 1664 (by decide) (by decide) (k0_off19 i) (k0_off19_inb i)) (vH x2 (k0_off20 i) (k0_off20_inb i)),
    oP 880 128 (by decide) (by decide)
      (pH x0 x1 1280 1408 (by decide) (by decide) (k0_off16 i) (k0_off16_inb i)) (vH x2 (k0_off18 i) (k0_off18_inb i)),
    oP 800 0 (by decide) (by decide)
      (pH x0 x1 1280 1408 (by decide) (by decide) (k0_off16 i) (k0_off16_inb i)) (vH x2 (k0_off17 i) (k0_off17_inb i)),
    oP 720 128 (by decide) (by decide)
      (pH x0 x1 1024 1152 (by decide) (by decide) (k0_off13 i) (k0_off13_inb i)) (vH x2 (k0_off15 i) (k0_off15_inb i)),
    oP 640 0 (by decide) (by decide)
      (pH x0 x1 1024 1152 (by decide) (by decide) (k0_off13 i) (k0_off13_inb i)) (vH x2 (k0_off14 i) (k0_off14_inb i)),
    oP 560 128 (by decide) (by decide)
      (pH x0 x1 768 896 (by decide) (by decide) (k0_off10 i) (k0_off10_inb i)) (vH x2 (k0_off12 i) (k0_off12_inb i)),
    oP 480 0 (by decide) (by decide)
      (pH x0 x1 768 896 (by decide) (by decide) (k0_off10 i) (k0_off10_inb i)) (vH x2 (k0_off11 i) (k0_off11_inb i)),
    oP 400 128 (by decide) (by decide)
      (pH x0 x1 512 640 (by decide) (by decide) (k0_off7 i) (k0_off7_inb i)) (vH x2 (k0_off9 i) (k0_off9_inb i)),
    oP 320 0 (by decide) (by decide)
      (pH x0 x1 512 640 (by decide) (by decide) (k0_off7 i) (k0_off7_inb i)) (vH x2 (k0_off8 i) (k0_off8_inb i)),
    oP 240 128 (by decide) (by decide)
      (pH x0 x1 256 384 (by decide) (by decide) (k0_off4 i) (k0_off4_inb i)) (vH x2 (k0_off6 i) (k0_off6_inb i)),
    oP 160 0 (by decide) (by decide)
      (pH x0 x1 256 384 (by decide) (by decide) (k0_off4 i) (k0_off4_inb i)) (vH x2 (k0_off5 i) (k0_off5_inb i)),
    oP 80 128 (by decide) (by decide)
      (pH x0 x1 0 128 (by decide) (by decide) (k0_off1 i) (k0_off1_inb i)) (vH x2 (k0_off3 i) (k0_off3_inb i)),
    oP 0 0 (by decide) (by decide)
      (pH x0 x1 0 128 (by decide) (by decide) (k0_off1 i) (k0_off1_inb i)) (vH x2 (k0_off2 i) (k0_off2_inb i))]

variable (c : Dev nD) (t : Fin cfg0.N)

set_option maxHeartbeats 4000000 in
/-- The output block after a point. -/
theorem out3_eq : out0_A_3 (F := Ideal) c (grid0.coords t) (ms0_0 t) (hs0_0 t) (ms0_1 t) (hs0_1 t) (ms0_2 t) (hs0_2 t) (ms0_3 t) (hs0_3 t) scM0_0 (Memref.isWhole_whole _) x0 x1 x2
    = k0_pay6 (View.canon (oL x0 x1 x2 (grid0.coords t))) := by
  unfold out0_A_3
  rw [View.read_writes_junk_eq_canon]
  unfold kernelRun0_A
  dsimp only
  sl_unfold_words
  simp only [View.readAt_eq_ld, (hs0_0 t).read_unread, (hs0_1 t).read_unread, (hs0_2 t).read_unread, readCov_ld]
  simp only [View.ld_unit_zero (S := S2048x128) (off := ![0, 0]) (by decide), View.ld_unit_zero (S := S1280x128) (off := ![0, 0]) (by decide)]
  rw [View.canon_unit_zero (S := S128x1280) (off := ![0, 0]) (by decide)]
  rfl

end

end Cert.WPieces
-- ==== Proof.WKRows.lean ====
module

public import proofs.«01_k».proof.Proof.WPieces

@[expose] public section

set_option maxRecDepth 16384

noncomputable section

namespace Cert.WKRows

open Cert.WinKernelIdeal Cert.WinKernelIdeal.Gen Cert.WPieces Idealize.ShloMosaic Idealize.ShloMosaic.TcCoe

/-! What one grid point of the window attention leaves in its block, at an index, as the attention of one query in one head. -/

/-- An entry of two heads' queries beside zeros. -/
theorem qbd_apply (o₀ o₁ : ℕ) (h₀ : o₀ + 128 ≤ 2048) (h₁ : o₁ + 128 ≤ 2048) (x0 : Vec Ideal S2048x128 .bf16) (x r : Fin 256) :
    qbd o₀ o₁ h₀ h₁ x0 (ix2 x r) = if hx : x.val < 128 then (if hr : r.val < 128 then x0 (ix2 ⟨o₀ + x, by omega⟩ ⟨r, hr⟩) else 0)
      else (if hr : r.val < 128 then 0 else x0 (ix2 ⟨o₁ + (x - 128), by omega⟩ ⟨r - 128, by omega⟩)) := by
  unfold qbd
  pointwise

/-- A score of two heads. -/
theorem sK_apply (k q : FVec Ideal S256x256 .bf16) (κ r : Fin 256) :
    sK k q (ix2 κ r) = (∑ x : Fin 256, k (ix2 κ x) * q (ix2 x r)) * Ideal.ofBits FTy.f32 0x3E252B5C#32 := by
  unfold sK
  pointwise

/-- A sum over two heads' channels. -/
theorem sum_two (f : Fin 256 → EReal) :
    ∑ x, f x = (∑ d : Fin 128, f ⟨d, by omega⟩) + ∑ d : Fin 128, f ⟨128 + d, by omega⟩ :=
  Fin.sum_univ_add (M := EReal) (a := 128) (b := 128) f

/-- A score of the first head. -/
theorem sK_fst (k : FVec Ideal S256x256 .bf16) (o₀ o₁ : ℕ) (h₀ : o₀ + 128 ≤ 2048) (h₁ : o₁ + 128 ≤ 2048)
    (x0 : Vec Ideal S2048x128 .bf16) (κ : Fin 256) (r : Fin 128) :
    sK k (qbd o₀ o₁ h₀ h₁ x0) (ix2 κ ⟨0 + r, by omega⟩)
      = WRows.scores (fun d => x0 (ix2 ⟨o₀ + d, by omega⟩ r)) (fun κ d => k (ix2 κ ⟨d, by omega⟩)) κ := by
  unfold WRows.scores
  rw [sK_apply, sum_two]
  simp only [qbd_apply]
  refine congrArg (· * _) ?_
  refine (congr (congrArg HAdd.hAdd (Finset.sum_congr rfl fun d _ => ?_)) (Finset.sum_eq_zero fun d _ => ?_)).trans (add_zero _)
  · rw [dif_pos d.isLt, dif_pos (by omega)]
    exact congrArg (_ * ·) (congrArg x0 (congrArg _ (Fin.ext (Nat.zero_add _))))
  · rw [dif_neg (by omega), dif_pos (by omega), mul_zero]

/-- A score of the second head. -/
theorem sK_snd (k : FVec Ideal S256x256 .bf16) (o₀ o₁ : ℕ) (h₀ : o₀ + 128 ≤ 2048) (h₁ : o₁ + 128 ≤ 2048)
    (x0 : Vec Ideal S2048x128 .bf16) (κ : Fin 256) (r : Fin 128) :
    sK k (qbd o₀ o₁ h₀ h₁ x0) (ix2 κ ⟨128 + r, by omega⟩)
      = WRows.scores (fun d => x0 (ix2 ⟨o₁ + d, by omega⟩ r)) (fun κ d => k (ix2 κ ⟨128 + d, by omega⟩)) κ := by
  unfold WRows.scores
  rw [sK_apply, sum_two]
  simp only [qbd_apply]
  refine congrArg (· * _) ?_
  refine (congr (congrArg HAdd.hAdd (Finset.sum_eq_zero fun d _ => ?_)) (Finset.sum_congr rfl fun d _ => ?_)).trans (zero_add _)
  · rw [dif_pos d.isLt, dif_neg (by omega), mul_zero]
  · rw [dif_neg (by omega), dif_neg (by omega)]
    exact congrArg (_ * ·) (congrArg x0 (congr (congrArg _ (Fin.ext (by dsimp only; omega))) (Fin.ext (by dsimp only; omega))))

/-- The largest score of a query. -/
theorem max_apply (s : FVec Ideal S256x256 .f32) (r : Fin 256) :
    multiReduction (F := Ideal) .maximumf [0] S256 s 0xFF800000#32 reduces_S256x256_S256 (.inl rfl) rfl (ix1 r)
      = Finset.fold max (Ideal.ofBits FTy.f32 0xFF800000#32) (fun κ => s (ix2 κ r)) Finset.univ := by
  pointwise

/-- It rounded up and repeated for every key. -/
theorem top_apply (a : FVec Ideal S256 .f32) (κ r : Fin 256) :
    broadcastTo S256x256 (ceil (shapeCast S1x256 a shapeCasts_S256_S1x256)) broadcasts_S1x256_S256x256 (ix2 κ r)
      = Ideal.liftRound Int.ceil (a (ix1 r)) := by
  pointwise

/-- A weight. -/
theorem pK_apply (s : FVec Ideal S256x256 .f32) (κ r : Fin 256) :
    pK s (ix2 κ r) = WRows.weight (fun κ => s (ix2 κ r)) κ := by
  unfold WRows.weight WRows.top
  rw [← max_apply, ← top_apply _ κ r]
  rfl

/-- A mean. -/
theorem oK_apply (o : ℕ) (h : o + 128 ≤ 256) (p : FVec Ideal S256x256 .f32) (v : FVec Ideal S80x256 .bf16) (d : Fin 80) (r : Fin 128) :
    oK o h p v (ix2 d r) = WRows.mean (fun κ => p (ix2 κ ⟨o + r, by omega⟩)) fun κ => v (ix2 d κ) := by
  unfold oK WRows.mean
  pointwise

/-- A load through a box of two offsets. -/
theorem ld_apply {n m a b : ℕ} {e : EltTy} (x : (VRows.M n m).Idx → Elt Ideal e) (off : Fin 2 → ℕ)
    (h : ∀ z, off z + (VRows.M a b).size z ≤ (VRows.M n m).size z) (u w : ℕ) (hoff : off = ![u, w]) (hu : u + a ≤ n) (hw : w + b ≤ m)
    (r : Fin a) (j : Fin b) :
    View.ld (S := VRows.M n m) x (Rect.unit off (VRows.M a b).size h) (ix2 r j) = x (ix2 ⟨u + r, by omega⟩ ⟨w + j, by omega⟩) := by
  subst hoff
  refine congrArg x (funext fun z => Fin.ext ?_)
  refine Fin.cases ?_ (fun z => Fin.cases ?_ (fun z => z.elim0) z) z
  · show u + 1 * r.val = u + r.val
    omega
  · show w + 1 * j.val = w + j.val
    omega

section

variable (x0 : Vec Ideal S2048x128 .bf16) (x1 : Vec Ideal S2176x2048 .bf16) (x2 : Vec Ideal S1280x2176 .bf16)

/-- One head's result for one query. -/
def head (i : Fin 16) (h : Fin 16) (d : Fin 80) (r : Fin 128) : EReal :=
  WRows.att (fun d => x0 (ix2 ⟨128 * h + d, by omega⟩ r)) (fun κ d => x1 (ix2 ⟨128 * i + κ, by omega⟩ ⟨128 * h + d, by omega⟩))
    fun κ => x2 (ix2 ⟨80 * h + d, by omega⟩ ⟨128 * i + κ, by omega⟩)

/-- The scratch, as a function on the block. -/
def oG (i : Fin 16) (y : S1280x128.Idx) : Elt Ideal .f32 :=
  head x0 x1 x2 i ⟨(y 0).val / 80, by have : (y 0).val < 1280 := (y 0).isLt; omega⟩ ⟨(y 0).val % 80, Nat.mod_lt _ (by decide)⟩ (y 1)

/-- Its entry in a head's row. -/
theorem oG_apply (i h : Fin 16) (d : Fin 80) (r : Fin 128) :
    oG x0 x1 x2 i (ix2 ⟨80 * h + d, by omega⟩ r) = head x0 x1 x2 i h d r := by
  have e1 : (80 * h.val + d.val) / 80 = h.val := by omega
  have e2 : (80 * h.val + d.val) % 80 = d.val := by omega
  unfold oG
  exact congr (congr (congrArg (head x0 x1 x2 i) (Fin.ext e1)) (Fin.ext e2)) rfl

/-- The place of a head's entry in the scratch. -/
theorem emb_row {o : ℕ} (h : o + 80 ≤ 1280) (d : Fin 80) (r : Fin 128) :
    (Rect.unit (s := S1280x128) ![o, 0] S80x128.size (orow h)).emb (ix2 d r) = ix2 ⟨o + d, by omega⟩ r := by
  refine funext fun a => Fin.ext ?_
  refine Fin.cases ?_ (fun a => Fin.cases ?_ (fun a => a.elim0) a) a
  · show o + 1 * d.val = o + d.val
    omega
  · show 0 + 1 * r.val = r.val
    omega

/-- The first head of two holds the function's entries. -/
theorem piece_fst (i h : Fin 16) (r o₀ o₁ : ℕ) (hr : r + 80 ≤ 1280) (h₀ : o₀ + 128 ≤ 2048) (h₁ : o₁ + 128 ≤ 2048)
    (ok ov : Fin 2 → ℕ) (hk) (hv) (er : r = 80 * h.val) (e₀ : o₀ = 128 * h.val) (ek : ok = ![128 * i.val, o₀])
    (ev : ov = ![r, 128 * i.val]) (hb : o₀ + 256 ≤ 2048) (z : S80x128.Idx) :
    (oP r 0 hr (by decide) (pH x0 x1 o₀ o₁ h₀ h₁ ok hk) (vH x2 ov hv)).2 z
      = oG x0 x1 x2 i ((oP r 0 hr (by decide) (pH x0 x1 o₀ o₁ h₀ h₁ ok hk) (vH x2 ov hv)).1.emb z) := by
  subst er e₀
  suffices H : ∀ (d : Fin 80) (c : Fin 128), (oP (80 * h.val) 0 hr (by decide) (pH x0 x1 (128 * h.val) o₁ h₀ h₁ ok hk) (vH x2 ov hv)).2 (ix2 d c)
      = oG x0 x1 x2 i ((oP (80 * h.val) 0 hr (by decide) (pH x0 x1 (128 * h.val) o₁ h₀ h₁ ok hk) (vH x2 ov hv)).1.emb (ix2 d c)) from
    (congrArg _ (eq_ix2 z)).trans ((H _ _).trans (congrArg _ (congrArg _ (eq_ix2 z).symm)))
  intro d c
  refine Eq.trans ?_ (congrArg (oG x0 x1 x2 i) (emb_row hr d c).symm)
  rw [oG_apply]
  unfold oP pH vH head WRows.att
  dsimp only
  rw [shapeCast_id, oK_apply]
  simp only [pK_apply, sK_fst]
  refine congr (congrArg WRows.mean (congrArg WRows.weight (congrArg (WRows.scores _) ?_))) ?_
  · funext κ x
    exact ld_apply (e := .bf16) x1 ok hk _ _ ek (by omega) (by omega) κ _
  · funext κ
    exact ld_apply (e := .bf16) x2 ov hv _ _ ev (by omega) (by omega) d κ

/-- The second head of two holds the function's entries. -/
theorem piece_snd (i h : Fin 16) (r o₀ o₁ : ℕ) (hr : r + 80 ≤ 1280) (h₀ : o₀ + 128 ≤ 2048) (h₁ : o₁ + 128 ≤ 2048)
    (ok ov : Fin 2 → ℕ) (hk) (hv) (er : r = 80 * h.val) (e₁ : o₁ = 128 * h.val) (ek : ok = ![128 * i.val, o₀])
    (ev : ov = ![r, 128 * i.val]) (hb : o₁ = o₀ + 128) (z : S80x128.Idx) :
    (oP r 128 hr (by decide) (pH x0 x1 o₀ o₁ h₀ h₁ ok hk) (vH x2 ov hv)).2 z
      = oG x0 x1 x2 i ((oP r 128 hr (by decide) (pH x0 x1 o₀ o₁ h₀ h₁ ok hk) (vH x2 ov hv)).1.emb z) := by
  subst er e₁
  suffices H : ∀ (d : Fin 80) (c : Fin 128), (oP (80 * h.val) 128 hr (by decide) (pH x0 x1 o₀ (128 * h.val) h₀ h₁ ok hk) (vH x2 ov hv)).2 (ix2 d c)
      = oG x0 x1 x2 i ((oP (80 * h.val) 128 hr (by decide) (pH x0 x1 o₀ (128 * h.val) h₀ h₁ ok hk) (vH x2 ov hv)).1.emb (ix2 d c)) from
    (congrArg _ (eq_ix2 z)).trans ((H _ _).trans (congrArg _ (congrArg _ (eq_ix2 z).symm)))
  intro d c
  refine Eq.trans ?_ (congrArg (oG x0 x1 x2 i) (emb_row hr d c).symm)
  rw [oG_apply]
  unfold oP pH vH head WRows.att
  dsimp only
  rw [shapeCast_id, oK_apply]
  simp only [pK_apply, sK_snd]
  refine congr (congrArg WRows.mean (congrArg WRows.weight (congrArg (WRows.scores _) ?_))) ?_
  · funext κ x
    refine (ld_apply (e := .bf16) x1 ok hk _ _ ek (by omega) (by omega) κ _).trans
      (congrArg x1 (congrArg _ (Fin.ext ?_)))
    dsimp only
    omega
  · funext κ
    exact ld_apply (e := .bf16) x2 ov hv _ _ ev (by omega) (by omega) d κ

/-- The scratch after all heads, at an entry. -/
theorem canon_apply (j : grid0.Coords) (i h : Fin 16) (hi : (j 0).val = i.val) (d : Fin 80) (r : Fin 128) :
    View.canon (oL x0 x1 x2 j) (ix2 ⟨80 * h + d, by omega⟩ r) = head x0 x1 x2 i h d r := by
  rw [← oG_apply]
  refine View.canon_apply_of_pieces (oG x0 x1 x2 i) _ ?_ _
    (View.cover_of_tiledL (oL x0 x1 x2 j) (![80, 128] : Fin 2 → ℕ) (by sl_kernel_rfl) _)
  unfold oL
  simp only [List.forall_mem_cons]
  exact ⟨piece_snd x0 x1 x2 i 15 _ _ _ _ _ _ _ _ _ _ rfl rfl (hi ▸ k0_off22_eq j) (hi ▸ k0_off24_eq j) rfl,
    piece_fst x0 x1 x2 i 14 _ _ _ _ _ _ _ _ _ _ rfl rfl (hi ▸ k0_off22_eq j) (hi ▸ k0_off23_eq j) (by decide),
    piece_snd x0 x1 x2 i 13 _ _ _ _ _ _ _ _ _ _ rfl rfl (hi ▸ k0_off19_eq j) (hi ▸ k0_off21_eq j) rfl,
    piece_fst x0 x1 x2 i 12 _ _ _ _ _ _ _ _ _ _ rfl rfl (hi ▸ k0_off19_eq j) (hi ▸ k0_off20_eq j) (by decide),
    piece_snd x0 x1 x2 i 11 _ _ _ _ _ _ _ _ _ _ rfl rfl (hi ▸ k0_off16_eq j) (hi ▸ k0_off18_eq j) rfl,
    piece_fst x0 x1 x2 i 10 _ _ _ _ _ _ _ _ _ _ rfl rfl (hi ▸ k0_off16_eq j) (hi ▸ k0_off17_eq j) (by decide),
    piece_snd x0 x1 x2 i 9 _ _ _ _ _ _ _ _ _ _ rfl rfl (hi ▸ k0_off13_eq j) (hi ▸ k0_off15_eq j) rfl,
    piece_fst x0 x1 x2 i 8 _ _ _ _ _ _ _ _ _ _ rfl rfl (hi ▸ k0_off13_eq j) (hi ▸ k0_off14_eq j) (by decide),
    piece_snd x0 x1 x2 i 7 _ _ _ _ _ _ _ _ _ _ rfl rfl (hi ▸ k0_off10_eq j) (hi ▸ k0_off12_eq j) rfl,
    piece_fst x0 x1 x2 i 6 _ _ _ _ _ _ _ _ _ _ rfl rfl (hi ▸ k0_off10_eq j) (hi ▸ k0_off11_eq j) (by decide),
    piece_snd x0 x1 x2 i 5 _ _ _ _ _ _ _ _ _ _ rfl rfl (hi ▸ k0_off7_eq j) (hi ▸ k0_off9_eq j) rfl,
    piece_fst x0 x1 x2 i 4 _ _ _ _ _ _ _ _ _ _ rfl rfl (hi ▸ k0_off7_eq j) (hi ▸ k0_off8_eq j) (by decide),
    piece_snd x0 x1 x2 i 3 _ _ _ _ _ _ _ _ _ _ rfl rfl (hi ▸ k0_off4_eq j) (hi ▸ k0_off6_eq j) rfl,
    piece_fst x0 x1 x2 i 2 _ _ _ _ _ _ _ _ _ _ rfl rfl (hi ▸ k0_off4_eq j) (hi ▸ k0_off5_eq j) (by decide),
    piece_snd x0 x1 x2 i 1 _ _ _ _ _ _ _ _ _ _ rfl rfl (hi ▸ k0_off1_eq j) (hi ▸ k0_off3_eq j) rfl,
    piece_fst x0 x1 x2 i 0 _ _ _ _ _ _ _ _ _ _ rfl rfl (hi ▸ k0_off1_eq j) (hi ▸ k0_off2_eq j) (by decide),
    fun _ h => absurd h List.not_mem_nil⟩

/-- The transpose at an entry. -/
theorem pay6_apply (v : FVec Ideal S1280x128 .f32) (r : Fin 128) (o : Fin 1280) : k0_pay6 v (ix2 r o) = v (ix2 o r) := by
  unfold k0_pay6
  pointwise

end

end Cert.WKRows
-- ==== Proof.WRefRows.lean ====
module

public import proofs.«01_k».proof.Proof.Gen.WinReferenceIdeal.Value
public import proofs.«01_k».proof.Proof.WRows
public import Idealize.ShloMosaic.Lib.MatmulPlain

@[expose] public section

set_option maxRecDepth 16384

noncomputable section

namespace Cert.WRefRows

open Cert.WinReferenceIdeal Cert.WinReferenceIdeal.Gen Idealize.ShloMosaic

/-! The reference's window attention, at an index, as the attention of one query in one head. -/

/-- The queries by block and head. -/
def qB (x : Vec Ideal S2048x2048 .bf16) : FVec Ideal S256x128x128 .bf16 :=
  shapeCast S256x128x128 (transpose S16x16x128x128 [0, 2, 1, 3] (shapeCast S16x128x16x128
    (transpose S2048x2048 [1, 0] x transposes_S2048x2048_p1_0_S2048x2048) shapeCasts_S2048x2048_S16x128x16x128)
    transposes_S16x128x16x128_p0_2_1_3_S16x16x128x128) shapeCasts_S16x16x128x128_S256x128x128

/-- An entry of them. -/
theorem qB_apply (x : Vec Ideal S2048x2048 .bf16) (i h : Fin 16) (r d : Fin 128) :
    qB x (ix3 ⟨16 * i + h, by omega⟩ r d) = x (ix2 ⟨128 * h + d, by omega⟩ ⟨128 * i + r, by omega⟩) := by
  unfold qB
  pointwise
  refine congrArg x (congr (congrArg _ (Fin.ext ?_)) (Fin.ext ?_)) <;> dsimp only <;> omega

/-- Each block's keys. -/
def kN (x : Vec Ideal S2176x2048 .bf16) : FVec Ideal S16x256x2048 .bf16 :=
  concatenate S16x256x2048 1
    [⟨S16x128x2048, extractStridedSlice S16x128x2048 ![0, 0, 0] (shapeCast S17x128x2048 x shapeCasts_S2176x2048_S17x128x2048)
      slices_S17x128x2048_o0_0_0_S16x128x2048⟩,
      ⟨S16x128x2048, extractStridedSlice S16x128x2048 ![1, 0, 0] (shapeCast S17x128x2048 x shapeCasts_S2176x2048_S17x128x2048)
      slices_S17x128x2048_o1_0_0_S16x128x2048⟩] concatenates_S16x128x2048_S16x128x2048_S16x256x2048_d1

/-- An entry of them. -/
theorem kN_apply (x : Vec Ideal S2176x2048 .bf16) (i : Fin 16) (κ : Fin 256) (d : Fin 2048) :
    kN x (ix3 i κ d) = x (ix2 ⟨128 * i + κ, by omega⟩ d) := by
  unfold kN
  pointwise
  split
  · refine congrArg x (congr (congrArg _ (Fin.ext ?_)) rfl) <;> dsimp only <;> omega
  · refine congrArg x (congr (congrArg _ (Fin.ext ?_)) rfl) <;> dsimp only <;> omega

/-- The keys by block and head. -/
def kB (x : FVec Ideal S16x256x2048 .bf16) : FVec Ideal S256x256x128 .bf16 :=
  shapeCast S256x256x128 (transpose S16x16x256x128 [0, 2, 1, 3] (shapeCast S16x256x16x128 x shapeCasts_S16x256x2048_S16x256x16x128)
    transposes_S16x256x16x128_p0_2_1_3_S16x16x256x128) shapeCasts_S16x16x256x128_S256x256x128

/-- An entry of them. -/
theorem kB_apply (x : FVec Ideal S16x256x2048 .bf16) (i h : Fin 16) (κ : Fin 256) (d : Fin 128) :
    kB x (ix3 ⟨16 * i + h, by omega⟩ κ d) = x (ix3 i κ ⟨128 * h + d, by omega⟩) := by
  unfold kB
  pointwise
  refine congrArg x (congrArg _ (Fin.ext ?_))
  dsimp only
  omega

/-- Each block's values. -/
def vN (x : Vec Ideal S1280x2176 .bf16) : FVec Ideal S16x256x1280 .bf16 :=
  concatenate S16x256x1280 1
    [⟨S16x128x1280, extractStridedSlice S16x128x1280 ![0, 0, 0] (shapeCast S17x128x1280
        (transpose S2176x1280 [1, 0] x transposes_S1280x2176_p1_0_S2176x1280) shapeCasts_S2176x1280_S17x128x1280)
      slices_S17x128x1280_o0_0_0_S16x128x1280⟩,
      ⟨S16x128x1280, extractStridedSlice S16x128x1280 ![1, 0, 0] (shapeCast S17x128x1280
        (transpose S2176x1280 [1, 0] x transposes_S1280x2176_p1_0_S2176x1280) shapeCasts_S2176x1280_S17x128x1280)
      slices_S17x128x1280_o1_0_0_S16x128x1280⟩] concatenates_S16x128x1280_S16x128x1280_S16x256x1280_d1

/-- An entry of them. -/
theorem vN_apply (x : Vec Ideal S1280x2176 .bf16) (i : Fin 16) (κ : Fin 256) (d : Fin 1280) :
    vN x (ix3 i κ d) = x (ix2 d ⟨128 * i + κ, by omega⟩) := by
  unfold vN
  pointwise
  split
  · refine congrArg x (congrArg _ (Fin.ext ?_)) <;> dsimp only <;> omega
  · refine congrArg x (congrArg _ (Fin.ext ?_)) <;> dsimp only <;> omega

/-- The values by block and head. -/
def vB (x : FVec Ideal S16x256x1280 .bf16) : FVec Ideal S256x256x80 .bf16 :=
  shapeCast S256x256x80 (transpose S16x16x256x80 [0, 2, 1, 3] (shapeCast S16x256x16x80 x shapeCasts_S16x256x1280_S16x256x16x80)
    transposes_S16x256x16x80_p0_2_1_3_S16x16x256x80) shapeCasts_S16x16x256x80_S256x256x80

/-- An entry of them. -/
theorem vB_apply (x : FVec Ideal S16x256x1280 .bf16) (i h : Fin 16) (κ : Fin 256) (d : Fin 80) :
    vB x (ix3 ⟨16 * i + h, by omega⟩ κ d) = x (ix3 i κ ⟨80 * h + d, by omega⟩) := by
  unfold vB
  pointwise
  refine congrArg x (congrArg _ (Fin.ext ?_))
  dsimp only
  omega

/-- The scores. -/
def sB (q : FVec Ideal S256x128x128 .bf16) (k : FVec Ideal S256x256x128 .bf16) : FVec Ideal S256x128x256 .f32 :=
  mulf (matmul dot_S256x128x128_S256x256x128_S256x128x256_2_2_1_1_0_0 none q k (constant S256x128x256 .f32 0x00000000#32))
    (broadcast S256x128x256 (Scalar.ofBits .f32 0x3E252B5C#32))

/-- A score. -/
theorem sB_apply (q : FVec Ideal S256x128x128 .bf16) (k : FVec Ideal S256x256x128 .bf16) (b : Fin 256) (r : Fin 128) (κ : Fin 256) :
    sB q k (ix3 b r κ) = WRows.scores (fun d => q (ix3 b r d)) (fun κ d => k (ix3 b κ d)) κ := by
  unfold sB WRows.scores
  pointwise
  simp only [mul_comm]

/-- The weights. -/
def pB (s : FVec Ideal S256x128x256 .f32) : FVec Ideal S256x128x256 .f32 :=
  exp2 (subf s (broadcastTo S256x128x256 (ceil (shapeCast S256x128x1 (multiReduction .maximumf [2] S256x128 s 0xFF800000#32
    reduces_S256x128x256_S256x128 (.inl rfl) rfl) shapeCasts_S256x128_S256x128x1)) broadcasts_S256x128x1_S256x128x256))

/-- The largest score of a query. -/
theorem max_apply (s : FVec Ideal S256x128x256 .f32) (b : Fin 256) (r : Fin 128) :
    multiReduction (F := Ideal) .maximumf [2] S256x128 s 0xFF800000#32 reduces_S256x128x256_S256x128 (.inl rfl) rfl (ix2 b r)
      = Finset.fold max (Ideal.ofBits FTy.f32 0xFF800000#32) (fun κ => s (ix3 b r κ)) Finset.univ := by
  pointwise

/-- It rounded up and repeated for every key. -/
theorem top_apply (a : FVec Ideal S256x128 .f32) (b : Fin 256) (r : Fin 128) (κ : Fin 256) :
    broadcastTo S256x128x256 (ceil (shapeCast S256x128x1 a shapeCasts_S256x128_S256x128x1)) broadcasts_S256x128x1_S256x128x256 (ix3 b r κ)
      = Ideal.liftRound Int.ceil (a (ix2 b r)) := by
  pointwise

/-- A weight. -/
theorem pB_apply (s : FVec Ideal S256x128x256 .f32) (b : Fin 256) (r : Fin 128) (κ : Fin 256) :
    pB s (ix3 b r κ) = WRows.weight (fun κ => s (ix3 b r κ)) κ := by
  unfold WRows.weight WRows.top
  rw [← max_apply, ← top_apply _ b r κ]
  rfl

/-- The weights' means of the values. -/
def oB (p : FVec Ideal S256x128x256 .f32) (v : FVec Ideal S256x256x80 .bf16) : FVec Ideal S256x128x80 .f32 :=
  divf (matmul dot_S256x128x256_S256x256x80_S256x128x80_2_1_1_2_0_0 none (truncf .bf16 p bitsLt_bf16_f32) v
      (constant S256x128x80 .f32 0x00000000#32))
    (broadcastTo S256x128x80 (shapeCast S256x128x1 (multiReduction .add [2] S256x128 p 0x00000000#32
      reduces_S256x128x256_S256x128 (.inl rfl) rfl) shapeCasts_S256x128_S256x128x1) broadcasts_S256x128x1_S256x128x80)

/-- A mean. -/
theorem oB_apply (p : FVec Ideal S256x128x256 .f32) (v : FVec Ideal S256x256x80 .bf16) (b : Fin 256) (r : Fin 128) (d : Fin 80) :
    oB p v (ix3 b r d) = WRows.mean (fun κ => p (ix3 b r κ)) fun κ => v (ix3 b κ d) := by
  unfold oB WRows.mean
  pointwise
  simp only [mul_comm]

/-- The results back in the tokens' order. -/
def rB (o : FVec Ideal S256x128x80 .f32) : FVec Ideal S2048x1280 .f32 :=
  shapeCast S2048x1280 (transpose S16x128x16x80 [0, 2, 1, 3] (shapeCast S16x16x128x80 o shapeCasts_S256x128x80_S16x16x128x80)
    transposes_S16x16x128x80_p0_2_1_3_S16x128x16x80) shapeCasts_S16x128x16x80_S2048x1280

/-- An entry of them. -/
theorem rB_apply (o : FVec Ideal S256x128x80 .f32) (i h : Fin 16) (r : Fin 128) (d : Fin 80) :
    rB o (ix2 ⟨128 * i + r, by omega⟩ ⟨80 * h + d, by omega⟩) = o (ix3 ⟨16 * i + h, by omega⟩ r d) := by
  unfold rB
  pointwise
  refine congrArg o (congr (congr (congrArg _ (Fin.ext ?_)) rfl) rfl)
  dsimp only
  omega

/-- The reference's result. -/
theorem G3_apply (x0 : Vec Ideal S2048x2048 .bf16) (x1 : Vec Ideal S2176x2048 .bf16) (x2 : Vec Ideal S1280x2176 .bf16)
    (i h : Fin 16) (r : Fin 128) (d : Fin 80) :
    Value.G3 x0 x1 x2 (ix2 ⟨128 * i + r, by omega⟩ ⟨80 * h + d, by omega⟩)
      = WRows.att (fun d => x0 (ix2 ⟨128 * h + d, by omega⟩ ⟨128 * i + r, by omega⟩))
        (fun κ d => x1 (ix2 ⟨128 * i + κ, by omega⟩ ⟨128 * h + d, by omega⟩))
        fun κ => x2 (ix2 ⟨80 * h + d, by omega⟩ ⟨128 * i + κ, by omega⟩) := by
  have e : Value.G3 x0 x1 x2 = rB (oB (pB (sB (qB x0) (kB (kN x1)))) (vB (vN x2))) := rfl
  rw [e, rB_apply, oB_apply]
  simp only [pB_apply, sB_apply, qB_apply, kB_apply, vB_apply, kN_apply, vN_apply]
  rfl

end Cert.WRefRows
-- ==== Proof.WArrays.lean ====
module

public import proofs.«01_k».proof.Proof.WKRows
public import proofs.«01_k».proof.Proof.WRefRows
public import Idealize.ShloMosaic.Lib.Pipeline.ValueKit

@[expose] public section

set_option maxRecDepth 16384

noncomputable section

namespace Cert.WArrays

open Cert.WinKernelIdeal Cert.WinKernelIdeal.Gen Cert.WPieces Cert.WKRows Idealize.ShloMosaic Idealize.ShloMosaic.TcCoe

/-! The window attention's result array after the run is the reference's function of the argument arrays. -/

variable (m : (ℓ : Loc nD τ sig) → Buf (Elt Ideal) ℓ)

/-- Each window's block at a point: the point's queries, or the whole array. -/
theorem idx : ∀ t : Fin grid0.N, win0_0.index t = ![0, t.val] ∧ win0_1.index t = ![0, 0] ∧ win0_2.index t = ![0, 0] ∧ win0_3.index t = ![t.val, 0] := by
  decide +kernel

/-- A point's coordinate is its number. -/
theorem coord : ∀ t : Fin grid0.N, (grid0.coords t 0).val = t.val := by
  decide +kernel

/-- A point as one of sixteen. -/
def pt (t : Fin cfg0.N) : Fin 16 := ⟨t.val, t.isLt⟩

/-- The query that column `r` of point `t`'s block is. -/
def row (t : Fin cfg0.N) (r : Fin 128) : Fin 2048 := ⟨t.val * 128 + r.val, by have : t.val < 16 := t.isLt; omega⟩

variable (c : Dev nD) (t : Fin cfg0.N)

/-- Column block `t` of argument 0. -/
theorem blk0 (j : Fin 2048) (r : Fin 128) : iblk m c 0 t (ix2 j r) = m ((c : Thread nD τ).loc main_arg0) (ix2 j (row t r)) := by
  unfold row
  blk_ext [iblk, V_main_arg0, idx t]

/-- Argument 1, whole. -/
theorem blk1 (r : Fin 2176) (j : Fin 2048) : iblk m c 1 t (ix2 r j) = m ((c : Thread nD τ).loc main_arg1) (ix2 r j) := by
  blk_ext [iblk, V_main_arg1, idx t]

/-- Argument 2, whole. -/
theorem blk2 (r : Fin 1280) (j : Fin 2176) : iblk m c 2 t (ix2 r j) = m ((c : Thread nD τ).loc main_arg2) (ix2 r j) := by
  blk_ext [iblk, V_main_arg2, idx t]

/-- Where the block's entries lie in the array of window 3. -/
theorem emb3 (r : Fin 128) (j : Fin 1280) : ((cfg0.win 3).blk t).view.emb (ix2 r j) = ix2 (row t r) j := by
  unfold row
  blk_ext [idx t]

/-- The output array: what a point leaves in the block. -/
theorem after3 : (dats m 0 c).after 3 t = k0_pay6 (View.canon (oL (iblk m c 0 t) (iblk m c 1 t) (iblk m c 2 t) (grid0.coords t))) := by
  rw [after0_3]
  unfold outsAt0
  dsimp only
  exact out3_eq (iblk m c 0 t) (iblk m c 1 t) (iblk m c 2 t) c t

/-- The output array after the run. -/
theorem final3 : (dats m 0 c).arrAt 3 cfg0.N = Cert.WinReferenceIdeal.Value.G3 (m ((c : Thread nD τ).loc main_arg0)) (m ((c : Thread nD τ).loc main_arg1)) (m ((c : Thread nD τ).loc main_arg2)) := by
  refine (dats m 0 c).arrAt_eq_of_covers 3 _ (by decide +kernel) fun t hf y => ?_
  change S128x1280.Idx at y
  obtain ⟨r, j, rfl⟩ : ∃ (r : Fin 128) (j : Fin 1280), y = ix2 r j := ⟨_, _, eq_ix2 y⟩
  obtain ⟨h, d, rfl⟩ : ∃ (h : Fin 16) (d : Fin 80), j = ⟨80 * h + d, by omega⟩ :=
    ⟨⟨j.val / 80, by omega⟩, ⟨j.val % 80, by omega⟩, Fin.ext (Nat.div_add_mod j.val 80).symm⟩
  have e : row t r = ⟨128 * (pt t).val + r.val, by have : (pt t).val < 16 := (pt t).isLt; omega⟩ :=
    Fin.ext (congrArg (· + r.val) (Nat.mul_comm t.val 128))
  rw [emb3, e, WRefRows.G3_apply]
  show (dats m 0 c).after 3 t (ix2 r _) = _
  rw [after3, pay6_apply]
  refine (canon_apply _ _ _ (grid0.coords t) (pt t) h (coord t) d r).trans ?_
  unfold head
  simp only [blk0, blk1, blk2, e]

end Cert.WArrays
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.QkvKernel
public import proofs.«01_k».proof.Proof.Gen.QkvKernel.Frame
public import proofs.«01_k».proof.Proof.Gen.QkvKernelIdeal.Value
public import proofs.«01_k».proof.Proof.Gen.QkvReferenceIdeal.Value
public import proofs.«01_k».proof.Proof.Gen.ReferenceIdeal.Value
public import proofs.«01_k».proof.Proof.Gen.WinKernel
public import proofs.«01_k».proof.Proof.Gen.WinKernel.Frame
public import proofs.«01_k».proof.Proof.Gen.WinKernelIdeal.Value
public import proofs.«01_k».proof.Proof.Gen.WinReferenceIdeal.Value
public import proofs.«01_k».proof.Proof.KArrays
public import proofs.«01_k».proof.Proof.QArrays
public import proofs.«01_k».proof.Proof.WArrays
public import Idealize.ShloMosaic.Adequacy
public import Idealize.ShloMosaic.Init

@[expose] public section

noncomputable section

namespace Cert.Proof

open Idealize.ShloMosaic Idealize.SL.Sem Cert.Kernel

/-- A function of fifteen arguments, at equal arguments. -/
theorem congr15 {A0 A1 A2 A3 A4 A5 A6 A7 A8 A9 A10 A11 A12 A13 A14 B : Type} (f : A0 → A1 → A2 → A3 → A4 → A5 → A6 → A7 → A8 → A9 → A10 → A11 → A12 → A13 → A14 → B)
    {a0 b0 : A0} {a1 b1 : A1} {a2 b2 : A2} {a3 b3 : A3} {a4 b4 : A4} {a5 b5 : A5} {a6 b6 : A6} {a7 b7 : A7} {a8 b8 : A8} {a9 b9 : A9} {a10 b10 : A10} {a11 b11 : A11} {a12 b12 : A12} {a13 b13 : A13} {a14 b14 : A14} (e0 : a0 = b0) (e1 : a1 = b1) (e2 : a2 = b2) (e3 : a3 = b3) (e4 : a4 = b4) (e5 : a5 = b5) (e6 : a6 = b6) (e7 : a7 = b7) (e8 : a8 = b8) (e9 : a9 = b9) (e10 : a10 = b10) (e11 : a11 = b11) (e12 : a12 = b12) (e13 : a13 = b13) (e14 : a14 = b14) :
    f a0 a1 a2 a3 a4 a5 a6 a7 a8 a9 a10 a11 a12 a13 a14 = f b0 b1 b2 b3 b4 b5 b6 b7 b8 b9 b10 b11 b12 b13 b14 := by
  subst e0 e1 e2 e3 e4 e5 e6 e7 e8 e9 e10 e11 e12 e13 e14
  rfl

set_option maxHeartbeats 4000000 in
/-- The kernel and the reference leave the same results. -/
theorem algebraic : letI := Cert.KernelIdeal.Gen.facts; letI := Cert.ReferenceIdeal.Gen.facts; Cert.algebraic_KernelIdeal_ReferenceIdeal := by
  intro m g m' g' _ hagree
  refine ⟨fun c => Cert.ReferenceIdeal.Value.G15 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    fun c => Cert.ReferenceIdeal.Value.G16 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    fun c => Cert.ReferenceIdeal.Value.G17 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    fun c => Cert.ReferenceIdeal.Value.G18 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    fun c => Cert.ReferenceIdeal.Value.G19 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    fun c => Cert.ReferenceIdeal.Value.G20 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    fun c => Cert.ReferenceIdeal.Value.G21 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · refine (θ_run _ _ _).mono (fun r h c => ?_) (Cert.KernelIdeal.Value.run_blocks m g)
    obtain ⟨h0, h1, h2, h3, h4, h5, h6, hk⟩ := h c
    exact ⟨h0.trans (Cert.KArrays.final15 m c), h1.trans (Cert.KArrays.final16 m c), h2.trans (Cert.KArrays.final17 m c), h3.trans (Cert.KArrays.final18 m c), h4.trans (Cert.KArrays.final19 m c), h5.trans (Cert.KArrays.final20 m c), h6.trans (Cert.KArrays.final21 m c), hk⟩
  · refine (θ_run _ _ _).mono (fun r h c => ?_) (Cert.ReferenceIdeal.Value.run m' g')
    obtain ⟨e0, e1, e2, e3, e4, e5, e6, e7, e8, e9, e10, e11, e12, e13, e14⟩ := hagree c
    obtain ⟨h0, h1, h2, h3, h4, h5, h6, hk⟩ := h c
    exact ⟨h0.trans (congr15 (Cert.ReferenceIdeal.Value.G15 (F := Ideal)) e0 e1 e2 e3 e4 e5 e6 e7 e8 e9 e10 e11 e12 e13 e14), h1.trans (congr15 (Cert.ReferenceIdeal.Value.G16 (F := Ideal)) e0 e1 e2 e3 e4 e5 e6 e7 e8 e9 e10 e11 e12 e13 e14), h2.trans (congr15 (Cert.ReferenceIdeal.Value.G17 (F := Ideal)) e0 e1 e2 e3 e4 e5 e6 e7 e8 e9 e10 e11 e12 e13 e14), h3.trans (congr15 (Cert.ReferenceIdeal.Value.G18 (F := Ideal)) e0 e1 e2 e3 e4 e5 e6 e7 e8 e9 e10 e11 e12 e13 e14), h4.trans (congr15 (Cert.ReferenceIdeal.Value.G19 (F := Ideal)) e0 e1 e2 e3 e4 e5 e6 e7 e8 e9 e10 e11 e12 e13 e14), h5.trans (congr15 (Cert.ReferenceIdeal.Value.G20 (F := Ideal)) e0 e1 e2 e3 e4 e5 e6 e7 e8 e9 e10 e11 e12 e13 e14), h6.trans (congr15 (Cert.ReferenceIdeal.Value.G21 (F := Ideal)) e0 e1 e2 e3 e4 e5 e6 e7 e8 e9 e10 e11 e12 e13 e14), hk⟩

/-- A function of eight arguments, at equal arguments. -/
theorem congr8 {A0 A1 A2 A3 A4 A5 A6 A7 B : Type} (f : A0 → A1 → A2 → A3 → A4 → A5 → A6 → A7 → B)
    {a0 b0 : A0} {a1 b1 : A1} {a2 b2 : A2} {a3 b3 : A3} {a4 b4 : A4} {a5 b5 : A5} {a6 b6 : A6} {a7 b7 : A7} (e0 : a0 = b0) (e1 : a1 = b1) (e2 : a2 = b2) (e3 : a3 = b3) (e4 : a4 = b4) (e5 : a5 = b5) (e6 : a6 = b6) (e7 : a7 = b7) :
    f a0 a1 a2 a3 a4 a5 a6 a7 = f b0 b1 b2 b3 b4 b5 b6 b7 := by
  subst e0 e1 e2 e3 e4 e5 e6 e7
  rfl

set_option maxHeartbeats 4000000 in
/-- The projection kernel and its reference leave the same results. -/
theorem algebraicQkv : letI := Cert.QkvKernelIdeal.Gen.facts; letI := Cert.QkvReferenceIdeal.Gen.facts; Cert.algebraic_QkvKernelIdeal_QkvReferenceIdeal := by
  intro m g m' g' _ hagree
  refine ⟨fun c => Cert.QkvReferenceIdeal.Value.G8 (m ((c.tc : Thread Cert.QkvKernelIdeal.nD Cert.QkvKernelIdeal.τ).loc Cert.QkvKernelIdeal.main_arg0)) (m ((c.tc : Thread Cert.QkvKernelIdeal.nD Cert.QkvKernelIdeal.τ).loc Cert.QkvKernelIdeal.main_arg1)) (m ((c.tc : Thread Cert.QkvKernelIdeal.nD Cert.QkvKernelIdeal.τ).loc Cert.QkvKernelIdeal.main_arg2)) (m ((c.tc : Thread Cert.QkvKernelIdeal.nD Cert.QkvKernelIdeal.τ).loc Cert.QkvKernelIdeal.main_arg3)) (m ((c.tc : Thread Cert.QkvKernelIdeal.nD Cert.QkvKernelIdeal.τ).loc Cert.QkvKernelIdeal.main_arg4)) (m ((c.tc : Thread Cert.QkvKernelIdeal.nD Cert.QkvKernelIdeal.τ).loc Cert.QkvKernelIdeal.main_arg5)) (m ((c.tc : Thread Cert.QkvKernelIdeal.nD Cert.QkvKernelIdeal.τ).loc Cert.QkvKernelIdeal.main_arg6)) (m ((c.tc : Thread Cert.QkvKernelIdeal.nD Cert.QkvKernelIdeal.τ).loc Cert.QkvKernelIdeal.main_arg7)),
    fun c => Cert.QkvReferenceIdeal.Value.G9 (m ((c.tc : Thread Cert.QkvKernelIdeal.nD Cert.QkvKernelIdeal.τ).loc Cert.QkvKernelIdeal.main_arg0)) (m ((c.tc : Thread Cert.QkvKernelIdeal.nD Cert.QkvKernelIdeal.τ).loc Cert.QkvKernelIdeal.main_arg1)) (m ((c.tc : Thread Cert.QkvKernelIdeal.nD Cert.QkvKernelIdeal.τ).loc Cert.QkvKernelIdeal.main_arg2)) (m ((c.tc : Thread Cert.QkvKernelIdeal.nD Cert.QkvKernelIdeal.τ).loc Cert.QkvKernelIdeal.main_arg3)) (m ((c.tc : Thread Cert.QkvKernelIdeal.nD Cert.QkvKernelIdeal.τ).loc Cert.QkvKernelIdeal.main_arg4)) (m ((c.tc : Thread Cert.QkvKernelIdeal.nD Cert.QkvKernelIdeal.τ).loc Cert.QkvKernelIdeal.main_arg5)) (m ((c.tc : Thread Cert.QkvKernelIdeal.nD Cert.QkvKernelIdeal.τ).loc Cert.QkvKernelIdeal.main_arg6)) (m ((c.tc : Thread Cert.QkvKernelIdeal.nD Cert.QkvKernelIdeal.τ).loc Cert.QkvKernelIdeal.main_arg7)),
    fun c => Cert.QkvReferenceIdeal.Value.G10 (m ((c.tc : Thread Cert.QkvKernelIdeal.nD Cert.QkvKernelIdeal.τ).loc Cert.QkvKernelIdeal.main_arg0)) (m ((c.tc : Thread Cert.QkvKernelIdeal.nD Cert.QkvKernelIdeal.τ).loc Cert.QkvKernelIdeal.main_arg1)) (m ((c.tc : Thread Cert.QkvKernelIdeal.nD Cert.QkvKernelIdeal.τ).loc Cert.QkvKernelIdeal.main_arg2)) (m ((c.tc : Thread Cert.QkvKernelIdeal.nD Cert.QkvKernelIdeal.τ).loc Cert.QkvKernelIdeal.main_arg3)) (m ((c.tc : Thread Cert.QkvKernelIdeal.nD Cert.QkvKernelIdeal.τ).loc Cert.QkvKernelIdeal.main_arg4)) (m ((c.tc : Thread Cert.QkvKernelIdeal.nD Cert.QkvKernelIdeal.τ).loc Cert.QkvKernelIdeal.main_arg5)) (m ((c.tc : Thread Cert.QkvKernelIdeal.nD Cert.QkvKernelIdeal.τ).loc Cert.QkvKernelIdeal.main_arg6)) (m ((c.tc : Thread Cert.QkvKernelIdeal.nD Cert.QkvKernelIdeal.τ).loc Cert.QkvKernelIdeal.main_arg7)),
    fun c => Cert.QkvReferenceIdeal.Value.G11 (m ((c.tc : Thread Cert.QkvKernelIdeal.nD Cert.QkvKernelIdeal.τ).loc Cert.QkvKernelIdeal.main_arg0)) (m ((c.tc : Thread Cert.QkvKernelIdeal.nD Cert.QkvKernelIdeal.τ).loc Cert.QkvKernelIdeal.main_arg1)) (m ((c.tc : Thread Cert.QkvKernelIdeal.nD Cert.QkvKernelIdeal.τ).loc Cert.QkvKernelIdeal.main_arg2)) (m ((c.tc : Thread Cert.QkvKernelIdeal.nD Cert.QkvKernelIdeal.τ).loc Cert.QkvKernelIdeal.main_arg3)) (m ((c.tc : Thread Cert.QkvKernelIdeal.nD Cert.QkvKernelIdeal.τ).loc Cert.QkvKernelIdeal.main_arg4)) (m ((c.tc : Thread Cert.QkvKernelIdeal.nD Cert.QkvKernelIdeal.τ).loc Cert.QkvKernelIdeal.main_arg5)) (m ((c.tc : Thread Cert.QkvKernelIdeal.nD Cert.QkvKernelIdeal.τ).loc Cert.QkvKernelIdeal.main_arg6)) (m ((c.tc : Thread Cert.QkvKernelIdeal.nD Cert.QkvKernelIdeal.τ).loc Cert.QkvKernelIdeal.main_arg7)),
    fun c => Cert.QkvReferenceIdeal.Value.G12 (m ((c.tc : Thread Cert.QkvKernelIdeal.nD Cert.QkvKernelIdeal.τ).loc Cert.QkvKernelIdeal.main_arg0)) (m ((c.tc : Thread Cert.QkvKernelIdeal.nD Cert.QkvKernelIdeal.τ).loc Cert.QkvKernelIdeal.main_arg1)) (m ((c.tc : Thread Cert.QkvKernelIdeal.nD Cert.QkvKernelIdeal.τ).loc Cert.QkvKernelIdeal.main_arg2)) (m ((c.tc : Thread Cert.QkvKernelIdeal.nD Cert.QkvKernelIdeal.τ).loc Cert.QkvKernelIdeal.main_arg3)) (m ((c.tc : Thread Cert.QkvKernelIdeal.nD Cert.QkvKernelIdeal.τ).loc Cert.QkvKernelIdeal.main_arg4)) (m ((c.tc : Thread Cert.QkvKernelIdeal.nD Cert.QkvKernelIdeal.τ).loc Cert.QkvKernelIdeal.main_arg5)) (m ((c.tc : Thread Cert.QkvKernelIdeal.nD Cert.QkvKernelIdeal.τ).loc Cert.QkvKernelIdeal.main_arg6)) (m ((c.tc : Thread Cert.QkvKernelIdeal.nD Cert.QkvKernelIdeal.τ).loc Cert.QkvKernelIdeal.main_arg7)), ?_, ?_⟩
  · refine (θ_run _ _ _).mono (fun r h c => ?_) (Cert.QkvKernelIdeal.Value.run_blocks m g)
    obtain ⟨h0, h1, h2, h3, h4, hk⟩ := h c
    exact ⟨h0.trans (Cert.QArrays.final8 m c), h1.trans (Cert.QArrays.final9 m c), h2.trans (Cert.QArrays.final10 m c), h3.trans (Cert.QArrays.final11 m c), h4.trans (Cert.QArrays.final12 m c), hk⟩
  · refine (θ_run _ _ _).mono (fun r h c => ?_) (Cert.QkvReferenceIdeal.Value.run m' g')
    obtain ⟨e0, e1, e2, e3, e4, e5, e6, e7⟩ := hagree c
    obtain ⟨h0, h1, h2, h3, h4, hk⟩ := h c
    exact ⟨h0.trans (congr8 (Cert.QkvReferenceIdeal.Value.G8 (F := Ideal)) e0 e1 e2 e3 e4 e5 e6 e7), h1.trans (congr8 (Cert.QkvReferenceIdeal.Value.G9 (F := Ideal)) e0 e1 e2 e3 e4 e5 e6 e7), h2.trans (congr8 (Cert.QkvReferenceIdeal.Value.G10 (F := Ideal)) e0 e1 e2 e3 e4 e5 e6 e7), h3.trans (congr8 (Cert.QkvReferenceIdeal.Value.G11 (F := Ideal)) e0 e1 e2 e3 e4 e5 e6 e7), h4.trans (congr8 (Cert.QkvReferenceIdeal.Value.G12 (F := Ideal)) e0 e1 e2 e3 e4 e5 e6 e7), hk⟩

/-- A function of three arguments, at equal arguments. -/
theorem congr3 {A0 A1 A2 B : Type} (f : A0 → A1 → A2 → B) {a0 b0 : A0} {a1 b1 : A1} {a2 b2 : A2} (e0 : a0 = b0) (e1 : a1 = b1) (e2 : a2 = b2) :
    f a0 a1 a2 = f b0 b1 b2 := by
  subst e0 e1 e2
  rfl

set_option maxHeartbeats 4000000 in
/-- The window attention and its reference leave the same result. -/
theorem algebraicWin : letI := Cert.WinKernelIdeal.Gen.facts; letI := Cert.WinReferenceIdeal.Gen.facts; Cert.algebraic_WinKernelIdeal_WinReferenceIdeal := by
  intro m g m' g' _ hagree
  refine ⟨fun c => Cert.WinReferenceIdeal.Value.G3 (m ((c.tc : Thread Cert.WinKernelIdeal.nD Cert.WinKernelIdeal.τ).loc Cert.WinKernelIdeal.main_arg0)) (m ((c.tc : Thread Cert.WinKernelIdeal.nD Cert.WinKernelIdeal.τ).loc Cert.WinKernelIdeal.main_arg1)) (m ((c.tc : Thread Cert.WinKernelIdeal.nD Cert.WinKernelIdeal.τ).loc Cert.WinKernelIdeal.main_arg2)), ?_, ?_⟩
  · refine (θ_run _ _ _).mono (fun r h c => ?_) (Cert.WinKernelIdeal.Value.run_blocks m g)
    obtain ⟨h0, hk⟩ := h c
    exact ⟨h0.trans (Cert.WArrays.final3 m c), hk⟩
  · refine (θ_run _ _ _).mono (fun r h c => ?_) (Cert.WinReferenceIdeal.Value.run m' g')
    obtain ⟨e0, e1, e2⟩ := hagree c
    obtain ⟨h0, hk⟩ := h c
    exact ⟨h0.trans (congr3 (Cert.WinReferenceIdeal.Value.G3 (F := Ideal)) e0 e1 e2), hk⟩

/-- The claims. -/
theorem claim : Cert.Claim := ⟨Cert.Kernel.Gen.facts, Cert.KernelIdeal.Gen.facts, Cert.ReferenceIdeal.Gen.facts, Cert.QkvKernel.Gen.facts, Cert.QkvKernelIdeal.Gen.facts, Cert.QkvReferenceIdeal.Gen.facts, Cert.WinKernel.Gen.facts, Cert.WinKernelIdeal.Gen.facts, Cert.WinReferenceIdeal.Gen.facts,
  fun m ρ _ => Cert.Kernel.Gen.frame m ρ, fun m ρ _ => Cert.KernelIdeal.Gen.frame m ρ, fun m ρ _ => Cert.ReferenceIdeal.Gen.frame m ρ, fun m ρ _ => Cert.QkvKernel.Gen.frame m ρ, fun m ρ _ => Cert.QkvKernelIdeal.Gen.frame m ρ, fun m ρ _ => Cert.QkvReferenceIdeal.Gen.frame m ρ,
  fun m ρ _ => Cert.WinKernel.Gen.frame m ρ, fun m ρ _ => Cert.WinKernelIdeal.Gen.frame m ρ, fun m ρ _ => Cert.WinReferenceIdeal.Gen.frame m ρ,
  trivial, algebraic, trivial, algebraicQkv, trivial, algebraicWin⟩

end Cert.Proof

end
